-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_uniform [hPre_uniform : Cert.Pre_uniform.Facts] (m : (ℓ : Loc Cert.KernelIdeal.nD Cert.KernelIdeal.τ Cert.KernelIdeal.sig) → Buf (Elt Ideal) ℓ) : Prop :=
  ∀ c : Dev Cert.KernelIdeal.nD,
    (Cert.Pre_uniform.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_uniform [hPre_uniform : Cert.Pre_uniform.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_uniform.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_uniform [hKernelIdeal : Cert.KernelIdeal.Facts] [hPre_uniform : Cert.Pre_uniform.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_uniform m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_uniform [hReferenceIdeal : Cert.ReferenceIdeal.Facts] [hPre_uniform : Cert.Pre_uniform.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_uniform m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_uniform [hKernelIdeal : Cert.KernelIdeal.Facts] [hReferenceIdeal : Cert.ReferenceIdeal.Facts] [hPre_uniform : Cert.Pre_uniform.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_uniform m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_uniform : Cert.Pre_uniform.Facts),
    quiescent_Kernel (hKernel := hKernel)
    ∧ quiescent_KernelIdeal (hKernelIdeal := hKernelIdeal)
    ∧ quiescent_KernelIdeal_pre_uniform (hKernelIdeal := hKernelIdeal) (hPre_uniform := hPre_uniform)
    ∧ quiescent_ReferenceIdeal (hReferenceIdeal := hReferenceIdeal)
    ∧ quiescent_ReferenceIdeal_pre_uniform (hReferenceIdeal := hReferenceIdeal) (hPre_uniform := hPre_uniform)
    ∧ preserves_Kernel_KernelIdeal
    ∧ algebraic_KernelIdeal_ReferenceIdeal_pre_uniform (hKernelIdeal := hKernelIdeal) (hReferenceIdeal := hReferenceIdeal) (hPre_uniform := hPre_uniform)
-- ==== Pre_uniform.lean ====
abbrev S16x256 : Shape := ⟨2, ![16, 256]⟩
abbrev S32768x256 : Shape := ⟨2, ![32768, 256]⟩
abbrev S16 : Shape := ⟨1, ![16]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S16x256 .f32) (main_arg1 : FVec F S16x256 .f32) (main_arg2 : FVec F S32768x256 .f32) (main_arg3 : FVec F S32768x256 .f32) (main_arg4 : FVec F S32768x256 .f32) (main_arg5 : FVec F S32768x256 .f32) (main_arg6 : IVec S16 32) (main_arg7 : IVec S16 32) : IVec S_ 1 :=
  let main_c : IVec S_ 32 := constantI S_ 32 2048#32
  let main_v0 : IVec S16 32 := broadcastInDim S16 ![] bcast_S_S16 main_c
  let main_v1 : IVec S16 1 := cmpi .eq main_arg6 main_v0
  let main_c_0 : IVec S_ 1 := constantI S_ 1 1#1
  let main_v2 : IVec S_ 1 := (fun x v => Host.reduce IntOp.andi x v reducesTo_S16_S_d0 h_S_) main_v1 main_c_0
  let main_c_1 : IVec S_ 32 := constantI S_ 32 2048#32
  let main_v3 : IVec S16 32 := broadcastInDim S16 ![] bcast_S_S16 main_c_1
  let main_v4 : IVec S16 1 := cmpi .eq main_arg7 main_v3
  let main_c_2 : IVec S_ 1 := constantI S_ 1 1#1
  let main_v5 : IVec S_ 1 := (fun x v => Host.reduce IntOp.andi x v reducesTo_S16_S_d0 h_S_) main_v4 main_c_2
  let main_v6 : IVec S_ 1 := andi main_v2 main_v5
  main_v6
-- ==== Kernel.lean ====
abbrev S16x256 : Shape := ⟨2, ![16, 256]⟩
abbrev S32768x256 : Shape := ⟨2, ![32768, 256]⟩
abbrev S16 : Shape := ⟨1, ![16]⟩
abbrev S8x256 : Shape := ⟨2, ![8, 256]⟩
abbrev S2048x256 : Shape := ⟨2, ![2048, 256]⟩
abbrev S1x256 : Shape := ⟨2, ![1, 256]⟩
abbrev S256x8x256 : Shape := ⟨3, ![256, 8, 256]⟩
abbrev S32x16 : Shape := ⟨2, ![32, 16]⟩
abbrev S256 : Shape := ⟨1, ![256]⟩
abbrev S128x256 : Shape := ⟨2, ![128, 256]⟩
abbrev S_ : Shape := ⟨0, ![]⟩
abbrev S1x16 : Shape := ⟨2, ![1, 16]⟩
abbrev S2048 : Shape := ⟨1, ![2048]⟩
abbrev S512 : Shape := ⟨1, ![512]⟩
abbrev S2560 : Shape := ⟨1, ![2560]⟩

abbrev nBuf : Table → Nat
  | .hbm => 17
  | .local .tc .vmem => 12
  | .local .scVector .vmem => 6
  | _ => 0

abbrev bufTy : (tb : Table) → Fin (nBuf tb) → BufTy
  | .hbm, ⟨0, _⟩ => ⟨S16x256, .f32⟩
  | .hbm, ⟨1, _⟩ => ⟨S16x256, .f32⟩
  | .hbm, ⟨2, _⟩ => ⟨S32768x256, .f32⟩
  | .hbm, ⟨3, _⟩ => ⟨S32768x256, .f32⟩
  | .hbm, ⟨4, _⟩ => ⟨S32768x256, .f32⟩
  | .hbm, ⟨5, _⟩ => ⟨S32768x256, .f32⟩
  | .hbm, ⟨6, _⟩ => ⟨S16, .i32⟩
  | .hbm, ⟨7, _⟩ => ⟨S16, .i32⟩
  | .hbm, ⟨8, _⟩ => ⟨S8x256, .f32⟩
  | .hbm, ⟨9, _⟩ => ⟨S32x16, .f32⟩
  | .hbm, ⟨10, _⟩ => ⟨S2048, .f32⟩
  | .hbm, ⟨11, _⟩ => ⟨S512, .f32⟩
  | .hbm, ⟨12, _⟩ => ⟨S2560, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local .tc .vmem, ⟨0, _⟩ => ⟨S2048x256, .f32⟩
  | .local .tc .vmem, ⟨1, _⟩ => ⟨S2048x256, .f32⟩
  | .local .tc .vmem, ⟨2, _⟩ => ⟨S2048x256, .f32⟩
  | .local .tc .vmem, ⟨3, _⟩ => ⟨S2048x256, .f32⟩
  | .local .tc .vmem, ⟨4, _⟩ => ⟨S2048x256, .f32⟩
  | .local .tc .vmem, ⟨5, _⟩ => ⟨S2048x256, .f32⟩
  | .local .tc .vmem, ⟨6, _⟩ => ⟨S2048x256, .f32⟩
  | .local .tc .vmem, ⟨7, _⟩ => ⟨S2048x256, .f32⟩
  | .local .tc .vmem, ⟨8, _⟩ => ⟨S16x256, .f32⟩
  | .local .tc .vmem, ⟨9, _⟩ => ⟨S16x256, .f32⟩
  | .local .tc .vmem, ⟨10, _⟩ => ⟨S8x256, .f32⟩
  | .local .tc .vmem, ⟨11, _⟩ => ⟨S2048x256, .f32⟩
  | .local .scVector .vmem, ⟨0, _⟩ => ⟨S256, .f32⟩
  | .local .scVector .vmem, ⟨1, _⟩ => ⟨S256, .f32⟩
  | .local .scVector .vmem, ⟨2, _⟩ => ⟨S128x256, .f32⟩
  | .local .scVector .vmem, ⟨3, _⟩ => ⟨S128x256, .f32⟩
  | .local .scVector .vmem, ⟨4, _⟩ => ⟨S128x256, .f32⟩
  | .local .scVector .vmem, ⟨5, _⟩ => ⟨S16, .f32⟩
  | _, _ => ⟨S16x256, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => false
  | ⟨12, _⟩ => false
  | ⟨13, _⟩ => false
  | ⟨14, _⟩ => false
  | ⟨15, _⟩ => false
  | ⟨16, _⟩ => false
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_arg2_scv : Ref sig .scVector := ⟨.hbm, 2, rfl⟩
abbrev main_arg4_scv : Ref sig .scVector := ⟨.hbm, 4, rfl⟩
abbrev main_arg3_scv : Ref sig .scVector := ⟨.hbm, 3, rfl⟩
abbrev main_arg5_scv : Ref sig .scVector := ⟨.hbm, 5, rfl⟩
abbrev main_arg0_scv : Ref sig .scVector := ⟨.hbm, 0, rfl⟩
abbrev main_arg1_scv : Ref sig .scVector := ⟨.hbm, 1, rfl⟩
abbrev main_v1_scv : Ref sig .scVector := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_scratch0 : Ref sig .tc := ⟨.vmem, 11, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![12], ![false]⟩

def k0_off1 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let v0 : BitVec 32 := Scalar.divsi arg0 c1_i32
  let c1_i32_4 : BitVec 32 := 1#32
  let v15 : BitVec 32 := Scalar.subi v0 c1_i32_4
  let v16 : BitVec 32 := Scalar.select v14 v15 v0
  let v20 : Index := Scalar.indexCast v16
  let c0 : Index := 0#32
  ![v20.toNat, 0]
def k0_cond2 (i : grid0.Coords) : BitVec 1 :=
  let arg0 : BitVec 32 := BitVec.ofNat 32 (i 0).val
  let c11_i32 : BitVec 32 := 11#32
  let v48 : BitVec 1 := Scalar.cmpi .eq arg0 c11_i32
  let v49 : BitVec 32 := Scalar.extui v48
  let c0_i32_20 : BitVec 32 := 0#32
  let v50 : BitVec 1 := Scalar.cmpi .ne v49 c0_i32_20
  v50

def cc0_transform_0 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.muli v16 c1_i32_5
  let v18 : BitVec 32 := Scalar.subi arg0 v17
  let c1_i32_6 : BitVec 32 := 1#32
  let v19 : BitVec 32 := Scalar.muli v16 c1_i32_6
  let v20 : BitVec 32 := Scalar.addi v19 v18
  let c0_i32_7 : BitVec 32 := 0#32
  let c0_i32_8 : BitVec 32 := 0#32
  ![v20.toNat, c0_i32_7.toNat]

def cc0_transform_1 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.muli v16 c1_i32_5
  let v18 : BitVec 32 := Scalar.subi arg0 v17
  let c1_i32_6 : BitVec 32 := 1#32
  let v19 : BitVec 32 := Scalar.muli v16 c1_i32_6
  let v20 : BitVec 32 := Scalar.addi v19 v18
  let c0_i32_7 : BitVec 32 := 0#32
  let c0_i32_8 : BitVec 32 := 0#32
  ![v20.toNat, c0_i32_7.toNat]

def cc0_transform_2 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.muli v16 c1_i32_5
  let v18 : BitVec 32 := Scalar.subi arg0 v17
  let c1_i32_6 : BitVec 32 := 1#32
  let v19 : BitVec 32 := Scalar.muli v16 c1_i32_6
  let v20 : BitVec 32 := Scalar.addi v19 v18
  let c0_i32_7 : BitVec 32 := 0#32
  let c0_i32_8 : BitVec 32 := 0#32
  ![v20.toNat, c0_i32_7.toNat]

def cc0_transform_3 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.muli v16 c1_i32_5
  let v18 : BitVec 32 := Scalar.subi arg0 v17
  let c1_i32_6 : BitVec 32 := 1#32
  let v19 : BitVec 32 := Scalar.muli v16 c1_i32_6
  let v20 : BitVec 32 := Scalar.addi v19 v18
  let c0_i32_7 : BitVec 32 := 0#32
  let c0_i32_8 : BitVec 32 := 0#32
  ![v20.toNat, c0_i32_7.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨2, ![2, 16], ![false, false]⟩

def k1_off1 (i : grid1.Coords) : Fin 2 → Nat :=
  let c12_i32 : BitVec 32 := 12#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let v19 : BitVec 32 := Scalar.addi c12_i32 v18
  let c0_i32_211_r0 : BitVec 32 := 0#32
  ![v19.toNat, 0]
def k1_off2 (i : grid1.Coords) (c0_i32_27 : BitVec 32) : Fin 2 → Nat :=
  let c12_i32 : BitVec 32 := 12#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let v19 : BitVec 32 := Scalar.addi c12_i32 v18
  let c2048_i32 : BitVec 32 := 2048#32
  let v20 : BitVec 32 := Scalar.muli v19 c2048_i32
  let c0_i32_5 : BitVec 32 := 0#32
  let v22 : BitVec 1 := Scalar.cmpi .sgt v1 c0_i32_5
  let v23 : BitVec 32 := Scalar.extui v22
  let c0_i32_6 : BitVec 32 := 0#32
  let v24 : BitVec 1 := Scalar.cmpi .slt v1 c0_i32_6
  let v25 : BitVec 32 := Scalar.extui v24
  let v26 : BitVec 32 := Scalar.subi v23 v25
  let c8_i32_4 : BitVec 32 := 8#32
  let c0_i32_7 : BitVec 32 := 0#32
  let v27 : BitVec 1 := Scalar.cmpi .sgt c8_i32_4 c0_i32_7
  let v28 : BitVec 32 := Scalar.extui v27
  let c0_i32_8 : BitVec 32 := 0#32
  let v29 : BitVec 1 := Scalar.cmpi .slt c8_i32_4 c0_i32_8
  let v30 : BitVec 32 := Scalar.extui v29
  let v31 : BitVec 32 := Scalar.subi v28 v30
  let v32 : BitVec 1 := Scalar.cmpi .ne v26 v31
  let v33 : BitVec 32 := Scalar.remsi v1 c8_i32_4
  let c0_i32_9 : BitVec 32 := 0#32
  let v34 : BitVec 1 := Scalar.cmpi .ne v33 c0_i32_9
  let v35 : BitVec 1 := Scalar.andi v32 v34
  let v21 : BitVec 32 := Scalar.divsi v1 c8_i32_4
  let c1_i32_10 : BitVec 32 := 1#32
  let v36 : BitVec 32 := Scalar.subi v21 c1_i32_10
  let v37 : BitVec 32 := Scalar.select v35 v36 v21
  let c8_i32_11 : BitVec 32 := 8#32
  let v38 : BitVec 32 := Scalar.muli v37 c8_i32_11
  let v39 : BitVec 32 := Scalar.subi v1 v38
  let c256_i32 : BitVec 32 := 256#32
  let v40 : BitVec 32 := Scalar.muli v39 c256_i32
  let v41 : BitVec 32 := Scalar.addi v20 v40
  let v58 : BitVec 32 := Scalar.addi v41 c0_i32_27
  let c0_i32_28 : BitVec 32 := 0#32
  ![v58.toNat, 0]
@[reducible] def k1_t1_loop : Scf.Loop 32 :=
  let c0_i32_37 : BitVec 32 := 0#32
  let c128_i32_38 : BitVec 32 := 128#32
  let v101 : BitVec 32 := Scalar.addi c0_i32_37 c128_i32_38
  let c1_i32_39 : BitVec 32 := 1#32
  ⟨c0_i32_37, v101, c1_i32_39⟩
def k1_off3 (k1_t1 : Fin k1_t1_loop.trips) : Fin 2 → Nat :=
  let c0_i32_37 : BitVec 32 := 0#32
  let c1_i32_39 : BitVec 32 := 1#32
  let arg18 : BitVec 32 := Scf.iv c0_i32_37 c1_i32_39 k1_t1
  let v388 : Index := Scalar.indexCast arg18
  let c0_211 : Index := 0#32
  ![v388.toNat, 0]
def k1_off4 (k1_t1 : Fin k1_t1_loop.trips) : Fin 2 → Nat :=
  let c0_i32_37 : BitVec 32 := 0#32
  let c1_i32_39 : BitVec 32 := 1#32
  let arg18 : BitVec 32 := Scf.iv c0_i32_37 c1_i32_39 k1_t1
  let v394 : Index := Scalar.indexCast arg18
  let c16_212 : Index := 16#32
  ![v394.toNat, 16]
def k1_off5 (k1_t1 : Fin k1_t1_loop.trips) : Fin 2 → Nat :=
  let c0_i32_37 : BitVec 32 := 0#32
  let c1_i32_39 : BitVec 32 := 1#32
  let arg18 : BitVec 32 := Scf.iv c0_i32_37 c1_i32_39 k1_t1
  let v400 : Index := Scalar.indexCast arg18
  let c32_213 : Index := 32#32
  ![v400.toNat, 32]
def k1_off6 (k1_t1 : Fin k1_t1_loop.trips) : Fin 2 → Nat :=
  let c0_i32_37 : BitVec 32 := 0#32
  let c1_i32_39 : BitVec 32 := 1#32
  let arg18 : BitVec 32 := Scf.iv c0_i32_37 c1_i32_39 k1_t1
  let v406 : Index := Scalar.indexCast arg18
  let c48_214 : Index := 48#32
  ![v406.toNat, 48]
def k1_off7 (k1_t1 : Fin k1_t1_loop.trips) : Fin 2 → Nat :=
  let c0_i32_37 : BitVec 32 := 0#32
  let c1_i32_39 : BitVec 32 := 1#32
  let arg18 : BitVec 32 := Scf.iv c0_i32_37 c1_i32_39 k1_t1
  let v412 : Index := Scalar.indexCast arg18
  let c64_215 : Index := 64#32
  ![v412.toNat, 64]
def k1_off8 (k1_t1 : Fin k1_t1_loop.trips) : Fin 2 → Nat :=
  let c0_i32_37 : BitVec 32 := 0#32
  let c1_i32_39 : BitVec 32 := 1#32
  let arg18 : BitVec 32 := Scf.iv c0_i32_37 c1_i32_39 k1_t1
  let v418 : Index := Scalar.indexCast arg18
  let c80_216 : Index := 80#32
  ![v418.toNat, 80]
def k1_off9 (k1_t1 : Fin k1_t1_loop.trips) : Fin 2 → Nat :=
  let c0_i32_37 : BitVec 32 := 0#32
  let c1_i32_39 : BitVec 32 := 1#32
  let arg18 : BitVec 32 := Scf.iv c0_i32_37 c1_i32_39 k1_t1
  let v424 : Index := Scalar.indexCast arg18
  let c96_217 : Index := 96#32
  ![v424.toNat, 96]
def k1_off10 (k1_t1 : Fin k1_t1_loop.trips) : Fin 2 → Nat :=
  let c0_i32_37 : BitVec 32 := 0#32
  let c1_i32_39 : BitVec 32 := 1#32
  let arg18 : BitVec 32 := Scf.iv c0_i32_37 c1_i32_39 k1_t1
  let v430 : Index := Scalar.indexCast arg18
  let c112_218 : Index := 112#32
  ![v430.toNat, 112]
def k1_off11 (k1_t1 : Fin k1_t1_loop.trips) : Fin 2 → Nat :=
  let c0_i32_37 : BitVec 32 := 0#32
  let c1_i32_39 : BitVec 32 := 1#32
  let arg18 : BitVec 32 := Scf.iv c0_i32_37 c1_i32_39 k1_t1
  let v436 : Index := Scalar.indexCast arg18
  let c128_219 : Index := 128#32
  ![v436.toNat, 128]
def k1_off12 (k1_t1 : Fin k1_t1_loop.trips) : Fin 2 → Nat :=
  let c0_i32_37 : BitVec 32 := 0#32
  let c1_i32_39 : BitVec 32 := 1#32
  let arg18 : BitVec 32 := Scf.iv c0_i32_37 c1_i32_39 k1_t1
  let v442 : Index := Scalar.indexCast arg18
  let c144_220 : Index := 144#32
  ![v442.toNat, 144]
def k1_off13 (k1_t1 : Fin k1_t1_loop.trips) : Fin 2 → Nat :=
  let c0_i32_37 : BitVec 32 := 0#32
  let c1_i32_39 : BitVec 32 := 1#32
  let arg18 : BitVec 32 := Scf.iv c0_i32_37 c1_i32_39 k1_t1
  let v448 : Index := Scalar.indexCast arg18
  let c160_221 : Index := 160#32
  ![v448.toNat, 160]
def k1_off14 (k1_t1 : Fin k1_t1_loop.trips) : Fin 2 → Nat :=
  let c0_i32_37 : BitVec 32 := 0#32
  let c1_i32_39 : BitVec 32 := 1#32
  let arg18 : BitVec 32 := Scf.iv c0_i32_37 c1_i32_39 k1_t1
  let v454 : Index := Scalar.indexCast arg18
  let c176_222 : Index := 176#32
  ![v454.toNat, 176]
def k1_off15 (k1_t1 : Fin k1_t1_loop.trips) : Fin 2 → Nat :=
  let c0_i32_37 : BitVec 32 := 0#32
  let c1_i32_39 : BitVec 32 := 1#32
  let arg18 : BitVec 32 := Scf.iv c0_i32_37 c1_i32_39 k1_t1
  let v460 : Index := Scalar.indexCast arg18
  let c192_223 : Index := 192#32
  ![v460.toNat, 192]
def k1_off16 (k1_t1 : Fin k1_t1_loop.trips) : Fin 2 → Nat :=
  let c0_i32_37 : BitVec 32 := 0#32
  let c1_i32_39 : BitVec 32 := 1#32
  let arg18 : BitVec 32 := Scf.iv c0_i32_37 c1_i32_39 k1_t1
  let v466 : Index := Scalar.indexCast arg18
  let c208_224 : Index := 208#32
  ![v466.toNat, 208]
def k1_off17 (k1_t1 : Fin k1_t1_loop.trips) : Fin 2 → Nat :=
  let c0_i32_37 : BitVec 32 := 0#32
  let c1_i32_39 : BitVec 32 := 1#32
  let arg18 : BitVec 32 := Scf.iv c0_i32_37 c1_i32_39 k1_t1
  let v472 : Index := Scalar.indexCast arg18
  let c224_225 : Index := 224#32
  ![v472.toNat, 224]
def k1_off18 (k1_t1 : Fin k1_t1_loop.trips) : Fin 2 → Nat :=
  let c0_i32_37 : BitVec 32 := 0#32
  let c1_i32_39 : BitVec 32 := 1#32
  let arg18 : BitVec 32 := Scf.iv c0_i32_37 c1_i32_39 k1_t1
  let v478 : Index := Scalar.indexCast arg18
  let c240_226 : Index := 240#32
  ![v478.toNat, 240]
@[reducible] def k1_t2_loop : Scf.Loop 32 :=
  let c0_i32_62 : BitVec 32 := 0#32
  let c128_i32_63 : BitVec 32 := 128#32
  let v140 : BitVec 32 := Scalar.addi c0_i32_62 c128_i32_63
  let c1_i32_64 : BitVec 32 := 1#32
  ⟨c0_i32_62, v140, c1_i32_64⟩
def k1_off19 (k1_t2 : Fin k1_t2_loop.trips) : Fin 2 → Nat :=
  let c0_i32_62 : BitVec 32 := 0#32
  let c1_i32_64 : BitVec 32 := 1#32
  let arg18 : BitVec 32 := Scf.iv c0_i32_62 c1_i32_64 k1_t2
  let v388 : Index := Scalar.indexCast arg18
  let c0_211 : Index := 0#32
  ![v388.toNat, 0]
def k1_off20 (k1_t2 : Fin k1_t2_loop.trips) : Fin 2 → Nat :=
  let c0_i32_62 : BitVec 32 := 0#32
  let c1_i32_64 : BitVec 32 := 1#32
  let arg18 : BitVec 32 := Scf.iv c0_i32_62 c1_i32_64 k1_t2
  let v394 : Index := Scalar.indexCast arg18
  let c16_212 : Index := 16#32
  ![v394.toNat, 16]
def k1_off21 (k1_t2 : Fin k1_t2_loop.trips) : Fin 2 → Nat :=
  let c0_i32_62 : BitVec 32 := 0#32
  let c1_i32_64 : BitVec 32 := 1#32
  let arg18 : BitVec 32 := Scf.iv c0_i32_62 c1_i32_64 k1_t2
  let v400 : Index := Scalar.indexCast arg18
  let c32_213 : Index := 32#32
  ![v400.toNat, 32]
def k1_off22 (k1_t2 : Fin k1_t2_loop.trips) : Fin 2 → Nat :=
  let c0_i32_62 : BitVec 32 := 0#32
  let c1_i32_64 : BitVec 32 := 1#32
  let arg18 : BitVec 32 := Scf.iv c0_i32_62 c1_i32_64 k1_t2
  let v406 : Index := Scalar.indexCast arg18
  let c48_214 : Index := 48#32
  ![v406.toNat, 48]
def k1_off23 (k1_t2 : Fin k1_t2_loop.trips) : Fin 2 → Nat :=
  let c0_i32_62 : BitVec 32 := 0#32
  let c1_i32_64 : BitVec 32 := 1#32
  let arg18 : BitVec 32 := Scf.iv c0_i32_62 c1_i32_64 k1_t2
  let v412 : Index := Scalar.indexCast arg18
  let c64_215 : Index := 64#32
  ![v412.toNat, 64]
def k1_off24 (k1_t2 : Fin k1_t2_loop.trips) : Fin 2 → Nat :=
  let c0_i32_62 : BitVec 32 := 0#32
  let c1_i32_64 : BitVec 32 := 1#32
  let arg18 : BitVec 32 := Scf.iv c0_i32_62 c1_i32_64 k1_t2
  let v418 : Index := Scalar.indexCast arg18
  let c80_216 : Index := 80#32
  ![v418.toNat, 80]
def k1_off25 (k1_t2 : Fin k1_t2_loop.trips) : Fin 2 → Nat :=
  let c0_i32_62 : BitVec 32 := 0#32
  let c1_i32_64 : BitVec 32 := 1#32
  let arg18 : BitVec 32 := Scf.iv c0_i32_62 c1_i32_64 k1_t2
  let v424 : Index := Scalar.indexCast arg18
  let c96_217 : Index := 96#32
  ![v424.toNat, 96]
def k1_off26 (k1_t2 : Fin k1_t2_loop.trips) : Fin 2 → Nat :=
  let c0_i32_62 : BitVec 32 := 0#32
  let c1_i32_64 : BitVec 32 := 1#32
  let arg18 : BitVec 32 := Scf.iv c0_i32_62 c1_i32_64 k1_t2
  let v430 : Index := Scalar.indexCast arg18
  let c112_218 : Index := 112#32
  ![v430.toNat, 112]
def k1_off27 (k1_t2 : Fin k1_t2_loop.trips) : Fin 2 → Nat :=
  let c0_i32_62 : BitVec 32 := 0#32
  let c1_i32_64 : BitVec 32 := 1#32
  let arg18 : BitVec 32 := Scf.iv c0_i32_62 c1_i32_64 k1_t2
  let v436 : Index := Scalar.indexCast arg18
  let c128_219 : Index := 128#32
  ![v436.toNat, 128]
def k1_off28 (k1_t2 : Fin k1_t2_loop.trips) : Fin 2 → Nat :=
  let c0_i32_62 : BitVec 32 := 0#32
  let c1_i32_64 : BitVec 32 := 1#32
  let arg18 : BitVec 32 := Scf.iv c0_i32_62 c1_i32_64 k1_t2
  let v442 : Index := Scalar.indexCast arg18
  let c144_220 : Index := 144#32
  ![v442.toNat, 144]
def k1_off29 (k1_t2 : Fin k1_t2_loop.trips) : Fin 2 → Nat :=
  let c0_i32_62 : BitVec 32 := 0#32
  let c1_i32_64 : BitVec 32 := 1#32
  let arg18 : BitVec 32 := Scf.iv c0_i32_62 c1_i32_64 k1_t2
  let v448 : Index := Scalar.indexCast arg18
  let c160_221 : Index := 160#32
  ![v448.toNat, 160]
def k1_off30 (k1_t2 : Fin k1_t2_loop.trips) : Fin 2 → Nat :=
  let c0_i32_62 : BitVec 32 := 0#32
  let c1_i32_64 : BitVec 32 := 1#32
  let arg18 : BitVec 32 := Scf.iv c0_i32_62 c1_i32_64 k1_t2
  let v454 : Index := Scalar.indexCast arg18
  let c176_222 : Index := 176#32
  ![v454.toNat, 176]
def k1_off31 (k1_t2 : Fin k1_t2_loop.trips) : Fin 2 → Nat :=
  let c0_i32_62 : BitVec 32 := 0#32
  let c1_i32_64 : BitVec 32 := 1#32
  let arg18 : BitVec 32 := Scf.iv c0_i32_62 c1_i32_64 k1_t2
  let v460 : Index := Scalar.indexCast arg18
  let c192_223 : Index := 192#32
  ![v460.toNat, 192]
def k1_off32 (k1_t2 : Fin k1_t2_loop.trips) : Fin 2 → Nat :=
  let c0_i32_62 : BitVec 32 := 0#32
  let c1_i32_64 : BitVec 32 := 1#32
  let arg18 : BitVec 32 := Scf.iv c0_i32_62 c1_i32_64 k1_t2
  let v466 : Index := Scalar.indexCast arg18
  let c208_224 : Index := 208#32
  ![v466.toNat, 208]
def k1_off33 (k1_t2 : Fin k1_t2_loop.trips) : Fin 2 → Nat :=
  let c0_i32_62 : BitVec 32 := 0#32
  let c1_i32_64 : BitVec 32 := 1#32
  let arg18 : BitVec 32 := Scf.iv c0_i32_62 c1_i32_64 k1_t2
  let v472 : Index := Scalar.indexCast arg18
  let c224_225 : Index := 224#32
  ![v472.toNat, 224]
def k1_off34 (k1_t2 : Fin k1_t2_loop.trips) : Fin 2 → Nat :=
  let c0_i32_62 : BitVec 32 := 0#32
  let c1_i32_64 : BitVec 32 := 1#32
  let arg18 : BitVec 32 := Scf.iv c0_i32_62 c1_i32_64 k1_t2
  let v478 : Index := Scalar.indexCast arg18
  let c240_226 : Index := 240#32
  ![v478.toNat, 240]
@[reducible] def k1_t3_loop : Scf.Loop 32 :=
  let c0_i32_87 : BitVec 32 := 0#32
  let c128_i32_88 : BitVec 32 := 128#32
  let v179 : BitVec 32 := Scalar.addi c0_i32_87 c128_i32_88
  let c1_i32_89 : BitVec 32 := 1#32
  ⟨c0_i32_87, v179, c1_i32_89⟩
def k1_off35 (k1_t3 : Fin k1_t3_loop.trips) : Fin 2 → Nat :=
  let c0_i32_87 : BitVec 32 := 0#32
  let c1_i32_89 : BitVec 32 := 1#32
  let arg18 : BitVec 32 := Scf.iv c0_i32_87 c1_i32_89 k1_t3
  let v388 : Index := Scalar.indexCast arg18
  let c0_211 : Index := 0#32
  ![v388.toNat, 0]
def k1_off36 (k1_t3 : Fin k1_t3_loop.trips) : Fin 2 → Nat :=
  let c0_i32_87 : BitVec 32 := 0#32
  let c1_i32_89 : BitVec 32 := 1#32
  let arg18 : BitVec 32 := Scf.iv c0_i32_87 c1_i32_89 k1_t3
  let v394 : Index := Scalar.indexCast arg18
  let c16_212 : Index := 16#32
  ![v394.toNat, 16]
def k1_off37 (k1_t3 : Fin k1_t3_loop.trips) : Fin 2 → Nat :=
  let c0_i32_87 : BitVec 32 := 0#32
  let c1_i32_89 : BitVec 32 := 1#32
  let arg18 : BitVec 32 := Scf.iv c0_i32_87 c1_i32_89 k1_t3
  let v400 : Index := Scalar.indexCast arg18
  let c32_213 : Index := 32#32
  ![v400.toNat, 32]
def k1_off38 (k1_t3 : Fin k1_t3_loop.trips) : Fin 2 → Nat :=
  let c0_i32_87 : BitVec 32 := 0#32
  let c1_i32_89 : BitVec 32 := 1#32
  let arg18 : BitVec 32 := Scf.iv c0_i32_87 c1_i32_89 k1_t3
  let v406 : Index := Scalar.indexCast arg18
  let c48_214 : Index := 48#32
  ![v406.toNat, 48]
def k1_off39 (k1_t3 : Fin k1_t3_loop.trips) : Fin 2 → Nat :=
  let c0_i32_87 : BitVec 32 := 0#32
  let c1_i32_89 : BitVec 32 := 1#32
  let arg18 : BitVec 32 := Scf.iv c0_i32_87 c1_i32_89 k1_t3
  let v412 : Index := Scalar.indexCast arg18
  let c64_215 : Index := 64#32
  ![v412.toNat, 64]
def k1_off40 (k1_t3 : Fin k1_t3_loop.trips) : Fin 2 → Nat :=
  let c0_i32_87 : BitVec 32 := 0#32
  let c1_i32_89 : BitVec 32 := 1#32
  let arg18 : BitVec 32 := Scf.iv c0_i32_87 c1_i32_89 k1_t3
  let v418 : Index := Scalar.indexCast arg18
  let c80_216 : Index := 80#32
  ![v418.toNat, 80]
def k1_off41 (k1_t3 : Fin k1_t3_loop.trips) : Fin 2 → Nat :=
  let c0_i32_87 : BitVec 32 := 0#32
  let c1_i32_89 : BitVec 32 := 1#32
  let arg18 : BitVec 32 := Scf.iv c0_i32_87 c1_i32_89 k1_t3
  let v424 : Index := Scalar.indexCast arg18
  let c96_217 : Index := 96#32
  ![v424.toNat, 96]
def k1_off42 (k1_t3 : Fin k1_t3_loop.trips) : Fin 2 → Nat :=
  let c0_i32_87 : BitVec 32 := 0#32
  let c1_i32_89 : BitVec 32 := 1#32
  let arg18 : BitVec 32 := Scf.iv c0_i32_87 c1_i32_89 k1_t3
  let v430 : Index := Scalar.indexCast arg18
  let c112_218 : Index := 112#32
  ![v430.toNat, 112]
def k1_off43 (k1_t3 : Fin k1_t3_loop.trips) : Fin 2 → Nat :=
  let c0_i32_87 : BitVec 32 := 0#32
  let c1_i32_89 : BitVec 32 := 1#32
  let arg18 : BitVec 32 := Scf.iv c0_i32_87 c1_i32_89 k1_t3
  let v436 : Index := Scalar.indexCast arg18
  let c128_219 : Index := 128#32
  ![v436.toNat, 128]
def k1_off44 (k1_t3 : Fin k1_t3_loop.trips) : Fin 2 → Nat :=
  let c0_i32_87 : BitVec 32 := 0#32
  let c1_i32_89 : BitVec 32 := 1#32
  let arg18 : BitVec 32 := Scf.iv c0_i32_87 c1_i32_89 k1_t3
  let v442 : Index := Scalar.indexCast arg18
  let c144_220 : Index := 144#32
  ![v442.toNat, 144]
def k1_off45 (k1_t3 : Fin k1_t3_loop.trips) : Fin 2 → Nat :=
  let c0_i32_87 : BitVec 32 := 0#32
  let c1_i32_89 : BitVec 32 := 1#32
  let arg18 : BitVec 32 := Scf.iv c0_i32_87 c1_i32_89 k1_t3
  let v448 : Index := Scalar.indexCast arg18
  let c160_221 : Index := 160#32
  ![v448.toNat, 160]
def k1_off46 (k1_t3 : Fin k1_t3_loop.trips) : Fin 2 → Nat :=
  let c0_i32_87 : BitVec 32 := 0#32
  let c1_i32_89 : BitVec 32 := 1#32
  let arg18 : BitVec 32 := Scf.iv c0_i32_87 c1_i32_89 k1_t3
  let v454 : Index := Scalar.indexCast arg18
  let c176_222 : Index := 176#32
  ![v454.toNat, 176]
def k1_off47 (k1_t3 : Fin k1_t3_loop.trips) : Fin 2 → Nat :=
  let c0_i32_87 : BitVec 32 := 0#32
  let c1_i32_89 : BitVec 32 := 1#32
  let arg18 : BitVec 32 := Scf.iv c0_i32_87 c1_i32_89 k1_t3
  let v460 : Index := Scalar.indexCast arg18
  let c192_223 : Index := 192#32
  ![v460.toNat, 192]
def k1_off48 (k1_t3 : Fin k1_t3_loop.trips) : Fin 2 → Nat :=
  let c0_i32_87 : BitVec 32 := 0#32
  let c1_i32_89 : BitVec 32 := 1#32
  let arg18 : BitVec 32 := Scf.iv c0_i32_87 c1_i32_89 k1_t3
  let v466 : Index := Scalar.indexCast arg18
  let c208_224 : Index := 208#32
  ![v466.toNat, 208]
def k1_off49 (k1_t3 : Fin k1_t3_loop.trips) : Fin 2 → Nat :=
  let c0_i32_87 : BitVec 32 := 0#32
  let c1_i32_89 : BitVec 32 := 1#32
  let arg18 : BitVec 32 := Scf.iv c0_i32_87 c1_i32_89 k1_t3
  let v472 : Index := Scalar.indexCast arg18
  let c224_225 : Index := 224#32
  ![v472.toNat, 224]
def k1_off50 (k1_t3 : Fin k1_t3_loop.trips) : Fin 2 → Nat :=
  let c0_i32_87 : BitVec 32 := 0#32
  let c1_i32_89 : BitVec 32 := 1#32
  let arg18 : BitVec 32 := Scf.iv c0_i32_87 c1_i32_89 k1_t3
  let v478 : Index := Scalar.indexCast arg18
  let c240_226 : Index := 240#32
  ![v478.toNat, 240]
@[reducible] def k1_t4_loop : Scf.Loop 32 :=
  let c0_i32_112 : BitVec 32 := 0#32
  let c128_i32_113 : BitVec 32 := 128#32
  let v218 : BitVec 32 := Scalar.addi c0_i32_112 c128_i32_113
  let c1_i32_114 : BitVec 32 := 1#32
  ⟨c0_i32_112, v218, c1_i32_114⟩
def k1_off51 (k1_t4 : Fin k1_t4_loop.trips) : Fin 2 → Nat :=
  let c0_i32_112 : BitVec 32 := 0#32
  let c1_i32_114 : BitVec 32 := 1#32
  let arg18 : BitVec 32 := Scf.iv c0_i32_112 c1_i32_114 k1_t4
  let v388 : Index := Scalar.indexCast arg18
  let c0_211 : Index := 0#32
  ![v388.toNat, 0]
def k1_off52 (k1_t4 : Fin k1_t4_loop.trips) : Fin 2 → Nat :=
  let c0_i32_112 : BitVec 32 := 0#32
  let c1_i32_114 : BitVec 32 := 1#32
  let arg18 : BitVec 32 := Scf.iv c0_i32_112 c1_i32_114 k1_t4
  let v394 : Index := Scalar.indexCast arg18
  let c16_212 : Index := 16#32
  ![v394.toNat, 16]
def k1_off53 (k1_t4 : Fin k1_t4_loop.trips) : Fin 2 → Nat :=
  let c0_i32_112 : BitVec 32 := 0#32
  let c1_i32_114 : BitVec 32 := 1#32
  let arg18 : BitVec 32 := Scf.iv c0_i32_112 c1_i32_114 k1_t4
  let v400 : Index := Scalar.indexCast arg18
  let c32_213 : Index := 32#32
  ![v400.toNat, 32]
def k1_off54 (k1_t4 : Fin k1_t4_loop.trips) : Fin 2 → Nat :=
  let c0_i32_112 : BitVec 32 := 0#32
  let c1_i32_114 : BitVec 32 := 1#32
  let arg18 : BitVec 32 := Scf.iv c0_i32_112 c1_i32_114 k1_t4
  let v406 : Index := Scalar.indexCast arg18
  let c48_214 : Index := 48#32
  ![v406.toNat, 48]
def k1_off55 (k1_t4 : Fin k1_t4_loop.trips) : Fin 2 → Nat :=
  let c0_i32_112 : BitVec 32 := 0#32
  let c1_i32_114 : BitVec 32 := 1#32
  let arg18 : BitVec 32 := Scf.iv c0_i32_112 c1_i32_114 k1_t4
  let v412 : Index := Scalar.indexCast arg18
  let c64_215 : Index := 64#32
  ![v412.toNat, 64]
def k1_off56 (k1_t4 : Fin k1_t4_loop.trips) : Fin 2 → Nat :=
  let c0_i32_112 : BitVec 32 := 0#32
  let c1_i32_114 : BitVec 32 := 1#32
  let arg18 : BitVec 32 := Scf.iv c0_i32_112 c1_i32_114 k1_t4
  let v418 : Index := Scalar.indexCast arg18
  let c80_216 : Index := 80#32
  ![v418.toNat, 80]
def k1_off57 (k1_t4 : Fin k1_t4_loop.trips) : Fin 2 → Nat :=
  let c0_i32_112 : BitVec 32 := 0#32
  let c1_i32_114 : BitVec 32 := 1#32
  let arg18 : BitVec 32 := Scf.iv c0_i32_112 c1_i32_114 k1_t4
  let v424 : Index := Scalar.indexCast arg18
  let c96_217 : Index := 96#32
  ![v424.toNat, 96]
def k1_off58 (k1_t4 : Fin k1_t4_loop.trips) : Fin 2 → Nat :=
  let c0_i32_112 : BitVec 32 := 0#32
  let c1_i32_114 : BitVec 32 := 1#32
  let arg18 : BitVec 32 := Scf.iv c0_i32_112 c1_i32_114 k1_t4
  let v430 : Index := Scalar.indexCast arg18
  let c112_218 : Index := 112#32
  ![v430.toNat, 112]
def k1_off59 (k1_t4 : Fin k1_t4_loop.trips) : Fin 2 → Nat :=
  let c0_i32_112 : BitVec 32 := 0#32
  let c1_i32_114 : BitVec 32 := 1#32
  let arg18 : BitVec 32 := Scf.iv c0_i32_112 c1_i32_114 k1_t4
  let v436 : Index := Scalar.indexCast arg18
  let c128_219 : Index := 128#32
  ![v436.toNat, 128]
def k1_off60 (k1_t4 : Fin k1_t4_loop.trips) : Fin 2 → Nat :=
  let c0_i32_112 : BitVec 32 := 0#32
  let c1_i32_114 : BitVec 32 := 1#32
  let arg18 : BitVec 32 := Scf.iv c0_i32_112 c1_i32_114 k1_t4
  let v442 : Index := Scalar.indexCast arg18
  let c144_220 : Index := 144#32
  ![v442.toNat, 144]
def k1_off61 (k1_t4 : Fin k1_t4_loop.trips) : Fin 2 → Nat :=
  let c0_i32_112 : BitVec 32 := 0#32
  let c1_i32_114 : BitVec 32 := 1#32
  let arg18 : BitVec 32 := Scf.iv c0_i32_112 c1_i32_114 k1_t4
  let v448 : Index := Scalar.indexCast arg18
  let c160_221 : Index := 160#32
  ![v448.toNat, 160]
def k1_off62 (k1_t4 : Fin k1_t4_loop.trips) : Fin 2 → Nat :=
  let c0_i32_112 : BitVec 32 := 0#32
  let c1_i32_114 : BitVec 32 := 1#32
  let arg18 : BitVec 32 := Scf.iv c0_i32_112 c1_i32_114 k1_t4
  let v454 : Index := Scalar.indexCast arg18
  let c176_222 : Index := 176#32
  ![v454.toNat, 176]
def k1_off63 (k1_t4 : Fin k1_t4_loop.trips) : Fin 2 → Nat :=
  let c0_i32_112 : BitVec 32 := 0#32
  let c1_i32_114 : BitVec 32 := 1#32
  let arg18 : BitVec 32 := Scf.iv c0_i32_112 c1_i32_114 k1_t4
  let v460 : Index := Scalar.indexCast arg18
  let c192_223 : Index := 192#32
  ![v460.toNat, 192]
def k1_off64 (k1_t4 : Fin k1_t4_loop.trips) : Fin 2 → Nat :=
  let c0_i32_112 : BitVec 32 := 0#32
  let c1_i32_114 : BitVec 32 := 1#32
  let arg18 : BitVec 32 := Scf.iv c0_i32_112 c1_i32_114 k1_t4
  let v466 : Index := Scalar.indexCast arg18
  let c208_224 : Index := 208#32
  ![v466.toNat, 208]
def k1_off65 (k1_t4 : Fin k1_t4_loop.trips) : Fin 2 → Nat :=
  let c0_i32_112 : BitVec 32 := 0#32
  let c1_i32_114 : BitVec 32 := 1#32
  let arg18 : BitVec 32 := Scf.iv c0_i32_112 c1_i32_114 k1_t4
  let v472 : Index := Scalar.indexCast arg18
  let c224_225 : Index := 224#32
  ![v472.toNat, 224]
def k1_off66 (k1_t4 : Fin k1_t4_loop.trips) : Fin 2 → Nat :=
  let c0_i32_112 : BitVec 32 := 0#32
  let c1_i32_114 : BitVec 32 := 1#32
  let arg18 : BitVec 32 := Scf.iv c0_i32_112 c1_i32_114 k1_t4
  let v478 : Index := Scalar.indexCast arg18
  let c240_226 : Index := 240#32
  ![v478.toNat, 240]
@[reducible] def k1_t5_loop : Scf.Loop 32 :=
  let c0_i32_137 : BitVec 32 := 0#32
  let c128_i32_138 : BitVec 32 := 128#32
  let v257 : BitVec 32 := Scalar.addi c0_i32_137 c128_i32_138
  let c1_i32_139 : BitVec 32 := 1#32
  ⟨c0_i32_137, v257, c1_i32_139⟩
def k1_off67 (k1_t5 : Fin k1_t5_loop.trips) : Fin 2 → Nat :=
  let c0_i32_137 : BitVec 32 := 0#32
  let c1_i32_139 : BitVec 32 := 1#32
  let arg18 : BitVec 32 := Scf.iv c0_i32_137 c1_i32_139 k1_t5
  let v388 : Index := Scalar.indexCast arg18
  let c0_211 : Index := 0#32
  ![v388.toNat, 0]
def k1_off68 (k1_t5 : Fin k1_t5_loop.trips) : Fin 2 → Nat :=
  let c0_i32_137 : BitVec 32 := 0#32
  let c1_i32_139 : BitVec 32 := 1#32
  let arg18 : BitVec 32 := Scf.iv c0_i32_137 c1_i32_139 k1_t5
  let v394 : Index := Scalar.indexCast arg18
  let c16_212 : Index := 16#32
  ![v394.toNat, 16]
def k1_off69 (k1_t5 : Fin k1_t5_loop.trips) : Fin 2 → Nat :=
  let c0_i32_137 : BitVec 32 := 0#32
  let c1_i32_139 : BitVec 32 := 1#32
  let arg18 : BitVec 32 := Scf.iv c0_i32_137 c1_i32_139 k1_t5
  let v400 : Index := Scalar.indexCast arg18
  let c32_213 : Index := 32#32
  ![v400.toNat, 32]
def k1_off70 (k1_t5 : Fin k1_t5_loop.trips) : Fin 2 → Nat :=
  let c0_i32_137 : BitVec 32 := 0#32
  let c1_i32_139 : BitVec 32 := 1#32
  let arg18 : BitVec 32 := Scf.iv c0_i32_137 c1_i32_139 k1_t5
  let v406 : Index := Scalar.indexCast arg18
  let c48_214 : Index := 48#32
  ![v406.toNat, 48]
def k1_off71 (k1_t5 : Fin k1_t5_loop.trips) : Fin 2 → Nat :=
  let c0_i32_137 : BitVec 32 := 0#32
  let c1_i32_139 : BitVec 32 := 1#32
  let arg18 : BitVec 32 := Scf.iv c0_i32_137 c1_i32_139 k1_t5
  let v412 : Index := Scalar.indexCast arg18
  let c64_215 : Index := 64#32
  ![v412.toNat, 64]
def k1_off72 (k1_t5 : Fin k1_t5_loop.trips) : Fin 2 → Nat :=
  let c0_i32_137 : BitVec 32 := 0#32
  let c1_i32_139 : BitVec 32 := 1#32
  let arg18 : BitVec 32 := Scf.iv c0_i32_137 c1_i32_139 k1_t5
  let v418 : Index := Scalar.indexCast arg18
  let c80_216 : Index := 80#32
  ![v418.toNat, 80]
def k1_off73 (k1_t5 : Fin k1_t5_loop.trips) : Fin 2 → Nat :=
  let c0_i32_137 : BitVec 32 := 0#32
  let c1_i32_139 : BitVec 32 := 1#32
  let arg18 : BitVec 32 := Scf.iv c0_i32_137 c1_i32_139 k1_t5
  let v424 : Index := Scalar.indexCast arg18
  let c96_217 : Index := 96#32
  ![v424.toNat, 96]
def k1_off74 (k1_t5 : Fin k1_t5_loop.trips) : Fin 2 → Nat :=
  let c0_i32_137 : BitVec 32 := 0#32
  let c1_i32_139 : BitVec 32 := 1#32
  let arg18 : BitVec 32 := Scf.iv c0_i32_137 c1_i32_139 k1_t5
  let v430 : Index := Scalar.indexCast arg18
  let c112_218 : Index := 112#32
  ![v430.toNat, 112]
def k1_off75 (k1_t5 : Fin k1_t5_loop.trips) : Fin 2 → Nat :=
  let c0_i32_137 : BitVec 32 := 0#32
  let c1_i32_139 : BitVec 32 := 1#32
  let arg18 : BitVec 32 := Scf.iv c0_i32_137 c1_i32_139 k1_t5
  let v436 : Index := Scalar.indexCast arg18
  let c128_219 : Index := 128#32
  ![v436.toNat, 128]
def k1_off76 (k1_t5 : Fin k1_t5_loop.trips) : Fin 2 → Nat :=
  let c0_i32_137 : BitVec 32 := 0#32
  let c1_i32_139 : BitVec 32 := 1#32
  let arg18 : BitVec 32 := Scf.iv c0_i32_137 c1_i32_139 k1_t5
  let v442 : Index := Scalar.indexCast arg18
  let c144_220 : Index := 144#32
  ![v442.toNat, 144]
def k1_off77 (k1_t5 : Fin k1_t5_loop.trips) : Fin 2 → Nat :=
  let c0_i32_137 : BitVec 32 := 0#32
  let c1_i32_139 : BitVec 32 := 1#32
  let arg18 : BitVec 32 := Scf.iv c0_i32_137 c1_i32_139 k1_t5
  let v448 : Index := Scalar.indexCast arg18
  let c160_221 : Index := 160#32
  ![v448.toNat, 160]
def k1_off78 (k1_t5 : Fin k1_t5_loop.trips) : Fin 2 → Nat :=
  let c0_i32_137 : BitVec 32 := 0#32
  let c1_i32_139 : BitVec 32 := 1#32
  let arg18 : BitVec 32 := Scf.iv c0_i32_137 c1_i32_139 k1_t5
  let v454 : Index := Scalar.indexCast arg18
  let c176_222 : Index := 176#32
  ![v454.toNat, 176]
def k1_off79 (k1_t5 : Fin k1_t5_loop.trips) : Fin 2 → Nat :=
  let c0_i32_137 : BitVec 32 := 0#32
  let c1_i32_139 : BitVec 32 := 1#32
  let arg18 : BitVec 32 := Scf.iv c0_i32_137 c1_i32_139 k1_t5
  let v460 : Index := Scalar.indexCast arg18
  let c192_223 : Index := 192#32
  ![v460.toNat, 192]
def k1_off80 (k1_t5 : Fin k1_t5_loop.trips) : Fin 2 → Nat :=
  let c0_i32_137 : BitVec 32 := 0#32
  let c1_i32_139 : BitVec 32 := 1#32
  let arg18 : BitVec 32 := Scf.iv c0_i32_137 c1_i32_139 k1_t5
  let v466 : Index := Scalar.indexCast arg18
  let c208_224 : Index := 208#32
  ![v466.toNat, 208]
def k1_off81 (k1_t5 : Fin k1_t5_loop.trips) : Fin 2 → Nat :=
  let c0_i32_137 : BitVec 32 := 0#32
  let c1_i32_139 : BitVec 32 := 1#32
  let arg18 : BitVec 32 := Scf.iv c0_i32_137 c1_i32_139 k1_t5
  let v472 : Index := Scalar.indexCast arg18
  let c224_225 : Index := 224#32
  ![v472.toNat, 224]
def k1_off82 (k1_t5 : Fin k1_t5_loop.trips) : Fin 2 → Nat :=
  let c0_i32_137 : BitVec 32 := 0#32
  let c1_i32_139 : BitVec 32 := 1#32
  let arg18 : BitVec 32 := Scf.iv c0_i32_137 c1_i32_139 k1_t5
  let v478 : Index := Scalar.indexCast arg18
  let c240_226 : Index := 240#32
  ![v478.toNat, 240]
@[reducible] def k1_t6_loop : Scf.Loop 32 :=
  let c0_i32_162 : BitVec 32 := 0#32
  let c128_i32_163 : BitVec 32 := 128#32
  let v296 : BitVec 32 := Scalar.addi c0_i32_162 c128_i32_163
  let c1_i32_164 : BitVec 32 := 1#32
  ⟨c0_i32_162, v296, c1_i32_164⟩
def k1_off83 (k1_t6 : Fin k1_t6_loop.trips) : Fin 2 → Nat :=
  let c0_i32_162 : BitVec 32 := 0#32
  let c1_i32_164 : BitVec 32 := 1#32
  let arg18 : BitVec 32 := Scf.iv c0_i32_162 c1_i32_164 k1_t6
  let v388 : Index := Scalar.indexCast arg18
  let c0_211 : Index := 0#32
  ![v388.toNat, 0]
def k1_off84 (k1_t6 : Fin k1_t6_loop.trips) : Fin 2 → Nat :=
  let c0_i32_162 : BitVec 32 := 0#32
  let c1_i32_164 : BitVec 32 := 1#32
  let arg18 : BitVec 32 := Scf.iv c0_i32_162 c1_i32_164 k1_t6
  let v394 : Index := Scalar.indexCast arg18
  let c16_212 : Index := 16#32
  ![v394.toNat, 16]
def k1_off85 (k1_t6 : Fin k1_t6_loop.trips) : Fin 2 → Nat :=
  let c0_i32_162 : BitVec 32 := 0#32
  let c1_i32_164 : BitVec 32 := 1#32
  let arg18 : BitVec 32 := Scf.iv c0_i32_162 c1_i32_164 k1_t6
  let v400 : Index := Scalar.indexCast arg18
  let c32_213 : Index := 32#32
  ![v400.toNat, 32]
def k1_off86 (k1_t6 : Fin k1_t6_loop.trips) : Fin 2 → Nat :=
  let c0_i32_162 : BitVec 32 := 0#32
  let c1_i32_164 : BitVec 32 := 1#32
  let arg18 : BitVec 32 := Scf.iv c0_i32_162 c1_i32_164 k1_t6
  let v406 : Index := Scalar.indexCast arg18
  let c48_214 : Index := 48#32
  ![v406.toNat, 48]
def k1_off87 (k1_t6 : Fin k1_t6_loop.trips) : Fin 2 → Nat :=
  let c0_i32_162 : BitVec 32 := 0#32
  let c1_i32_164 : BitVec 32 := 1#32
  let arg18 : BitVec 32 := Scf.iv c0_i32_162 c1_i32_164 k1_t6
  let v412 : Index := Scalar.indexCast arg18
  let c64_215 : Index := 64#32
  ![v412.toNat, 64]
def k1_off88 (k1_t6 : Fin k1_t6_loop.trips) : Fin 2 → Nat :=
  let c0_i32_162 : BitVec 32 := 0#32
  let c1_i32_164 : BitVec 32 := 1#32
  let arg18 : BitVec 32 := Scf.iv c0_i32_162 c1_i32_164 k1_t6
  let v418 : Index := Scalar.indexCast arg18
  let c80_216 : Index := 80#32
  ![v418.toNat, 80]
def k1_off89 (k1_t6 : Fin k1_t6_loop.trips) : Fin 2 → Nat :=
  let c0_i32_162 : BitVec 32 := 0#32
  let c1_i32_164 : BitVec 32 := 1#32
  let arg18 : BitVec 32 := Scf.iv c0_i32_162 c1_i32_164 k1_t6
  let v424 : Index := Scalar.indexCast arg18
  let c96_217 : Index := 96#32
  ![v424.toNat, 96]
def k1_off90 (k1_t6 : Fin k1_t6_loop.trips) : Fin 2 → Nat :=
  let c0_i32_162 : BitVec 32 := 0#32
  let c1_i32_164 : BitVec 32 := 1#32
  let arg18 : BitVec 32 := Scf.iv c0_i32_162 c1_i32_164 k1_t6
  let v430 : Index := Scalar.indexCast arg18
  let c112_218 : Index := 112#32
  ![v430.toNat, 112]
def k1_off91 (k1_t6 : Fin k1_t6_loop.trips) : Fin 2 → Nat :=
  let c0_i32_162 : BitVec 32 := 0#32
  let c1_i32_164 : BitVec 32 := 1#32
  let arg18 : BitVec 32 := Scf.iv c0_i32_162 c1_i32_164 k1_t6
  let v436 : Index := Scalar.indexCast arg18
  let c128_219 : Index := 128#32
  ![v436.toNat, 128]
def k1_off92 (k1_t6 : Fin k1_t6_loop.trips) : Fin 2 → Nat :=
  let c0_i32_162 : BitVec 32 := 0#32
  let c1_i32_164 : BitVec 32 := 1#32
  let arg18 : BitVec 32 := Scf.iv c0_i32_162 c1_i32_164 k1_t6
  let v442 : Index := Scalar.indexCast arg18
  let c144_220 : Index := 144#32
  ![v442.toNat, 144]
def k1_off93 (k1_t6 : Fin k1_t6_loop.trips) : Fin 2 → Nat :=
  let c0_i32_162 : BitVec 32 := 0#32
  let c1_i32_164 : BitVec 32 := 1#32
  let arg18 : BitVec 32 := Scf.iv c0_i32_162 c1_i32_164 k1_t6
  let v448 : Index := Scalar.indexCast arg18
  let c160_221 : Index := 160#32
  ![v448.toNat, 160]
def k1_off94 (k1_t6 : Fin k1_t6_loop.trips) : Fin 2 → Nat :=
  let c0_i32_162 : BitVec 32 := 0#32
  let c1_i32_164 : BitVec 32 := 1#32
  let arg18 : BitVec 32 := Scf.iv c0_i32_162 c1_i32_164 k1_t6
  let v454 : Index := Scalar.indexCast arg18
  let c176_222 : Index := 176#32
  ![v454.toNat, 176]
def k1_off95 (k1_t6 : Fin k1_t6_loop.trips) : Fin 2 → Nat :=
  let c0_i32_162 : BitVec 32 := 0#32
  let c1_i32_164 : BitVec 32 := 1#32
  let arg18 : BitVec 32 := Scf.iv c0_i32_162 c1_i32_164 k1_t6
  let v460 : Index := Scalar.indexCast arg18
  let c192_223 : Index := 192#32
  ![v460.toNat, 192]
def k1_off96 (k1_t6 : Fin k1_t6_loop.trips) : Fin 2 → Nat :=
  let c0_i32_162 : BitVec 32 := 0#32
  let c1_i32_164 : BitVec 32 := 1#32
  let arg18 : BitVec 32 := Scf.iv c0_i32_162 c1_i32_164 k1_t6
  let v466 : Index := Scalar.indexCast arg18
  let c208_224 : Index := 208#32
  ![v466.toNat, 208]
def k1_off97 (k1_t6 : Fin k1_t6_loop.trips) : Fin 2 → Nat :=
  let c0_i32_162 : BitVec 32 := 0#32
  let c1_i32_164 : BitVec 32 := 1#32
  let arg18 : BitVec 32 := Scf.iv c0_i32_162 c1_i32_164 k1_t6
  let v472 : Index := Scalar.indexCast arg18
  let c224_225 : Index := 224#32
  ![v472.toNat, 224]
def k1_off98 (k1_t6 : Fin k1_t6_loop.trips) : Fin 2 → Nat :=
  let c0_i32_162 : BitVec 32 := 0#32
  let c1_i32_164 : BitVec 32 := 1#32
  let arg18 : BitVec 32 := Scf.iv c0_i32_162 c1_i32_164 k1_t6
  let v478 : Index := Scalar.indexCast arg18
  let c240_226 : Index := 240#32
  ![v478.toNat, 240]
@[reducible] def k1_t7_loop : Scf.Loop 32 :=
  let c0_i32_184 : BitVec 32 := 0#32
  let c128_i32_185 : BitVec 32 := 128#32
  let v332 : BitVec 32 := Scalar.addi c0_i32_184 c128_i32_185
  let c1_i32_186 : BitVec 32 := 1#32
  ⟨c0_i32_184, v332, c1_i32_186⟩
def k1_off99 (k1_t7 : Fin k1_t7_loop.trips) : Fin 2 → Nat :=
  let c0_i32_184 : BitVec 32 := 0#32
  let c1_i32_186 : BitVec 32 := 1#32
  let arg18 : BitVec 32 := Scf.iv c0_i32_184 c1_i32_186 k1_t7
  let v388 : Index := Scalar.indexCast arg18
  let c0_211 : Index := 0#32
  ![v388.toNat, 0]
def k1_off100 (k1_t7 : Fin k1_t7_loop.trips) : Fin 2 → Nat :=
  let c0_i32_184 : BitVec 32 := 0#32
  let c1_i32_186 : BitVec 32 := 1#32
  let arg18 : BitVec 32 := Scf.iv c0_i32_184 c1_i32_186 k1_t7
  let v394 : Index := Scalar.indexCast arg18
  let c16_212 : Index := 16#32
  ![v394.toNat, 16]
def k1_off101 (k1_t7 : Fin k1_t7_loop.trips) : Fin 2 → Nat :=
  let c0_i32_184 : BitVec 32 := 0#32
  let c1_i32_186 : BitVec 32 := 1#32
  let arg18 : BitVec 32 := Scf.iv c0_i32_184 c1_i32_186 k1_t7
  let v400 : Index := Scalar.indexCast arg18
  let c32_213 : Index := 32#32
  ![v400.toNat, 32]
def k1_off102 (k1_t7 : Fin k1_t7_loop.trips) : Fin 2 → Nat :=
  let c0_i32_184 : BitVec 32 := 0#32
  let c1_i32_186 : BitVec 32 := 1#32
  let arg18 : BitVec 32 := Scf.iv c0_i32_184 c1_i32_186 k1_t7
  let v406 : Index := Scalar.indexCast arg18
  let c48_214 : Index := 48#32
  ![v406.toNat, 48]
def k1_off103 (k1_t7 : Fin k1_t7_loop.trips) : Fin 2 → Nat :=
  let c0_i32_184 : BitVec 32 := 0#32
  let c1_i32_186 : BitVec 32 := 1#32
  let arg18 : BitVec 32 := Scf.iv c0_i32_184 c1_i32_186 k1_t7
  let v412 : Index := Scalar.indexCast arg18
  let c64_215 : Index := 64#32
  ![v412.toNat, 64]
def k1_off104 (k1_t7 : Fin k1_t7_loop.trips) : Fin 2 → Nat :=
  let c0_i32_184 : BitVec 32 := 0#32
  let c1_i32_186 : BitVec 32 := 1#32
  let arg18 : BitVec 32 := Scf.iv c0_i32_184 c1_i32_186 k1_t7
  let v418 : Index := Scalar.indexCast arg18
  let c80_216 : Index := 80#32
  ![v418.toNat, 80]
def k1_off105 (k1_t7 : Fin k1_t7_loop.trips) : Fin 2 → Nat :=
  let c0_i32_184 : BitVec 32 := 0#32
  let c1_i32_186 : BitVec 32 := 1#32
  let arg18 : BitVec 32 := Scf.iv c0_i32_184 c1_i32_186 k1_t7
  let v424 : Index := Scalar.indexCast arg18
  let c96_217 : Index := 96#32
  ![v424.toNat, 96]
def k1_off106 (k1_t7 : Fin k1_t7_loop.trips) : Fin 2 → Nat :=
  let c0_i32_184 : BitVec 32 := 0#32
  let c1_i32_186 : BitVec 32 := 1#32
  let arg18 : BitVec 32 := Scf.iv c0_i32_184 c1_i32_186 k1_t7
  let v430 : Index := Scalar.indexCast arg18
  let c112_218 : Index := 112#32
  ![v430.toNat, 112]
def k1_off107 (k1_t7 : Fin k1_t7_loop.trips) : Fin 2 → Nat :=
  let c0_i32_184 : BitVec 32 := 0#32
  let c1_i32_186 : BitVec 32 := 1#32
  let arg18 : BitVec 32 := Scf.iv c0_i32_184 c1_i32_186 k1_t7
  let v436 : Index := Scalar.indexCast arg18
  let c128_219 : Index := 128#32
  ![v436.toNat, 128]
def k1_off108 (k1_t7 : Fin k1_t7_loop.trips) : Fin 2 → Nat :=
  let c0_i32_184 : BitVec 32 := 0#32
  let c1_i32_186 : BitVec 32 := 1#32
  let arg18 : BitVec 32 := Scf.iv c0_i32_184 c1_i32_186 k1_t7
  let v442 : Index := Scalar.indexCast arg18
  let c144_220 : Index := 144#32
  ![v442.toNat, 144]
def k1_off109 (k1_t7 : Fin k1_t7_loop.trips) : Fin 2 → Nat :=
  let c0_i32_184 : BitVec 32 := 0#32
  let c1_i32_186 : BitVec 32 := 1#32
  let arg18 : BitVec 32 := Scf.iv c0_i32_184 c1_i32_186 k1_t7
  let v448 : Index := Scalar.indexCast arg18
  let c160_221 : Index := 160#32
  ![v448.toNat, 160]
def k1_off110 (k1_t7 : Fin k1_t7_loop.trips) : Fin 2 → Nat :=
  let c0_i32_184 : BitVec 32 := 0#32
  let c1_i32_186 : BitVec 32 := 1#32
  let arg18 : BitVec 32 := Scf.iv c0_i32_184 c1_i32_186 k1_t7
  let v454 : Index := Scalar.indexCast arg18
  let c176_222 : Index := 176#32
  ![v454.toNat, 176]
def k1_off111 (k1_t7 : Fin k1_t7_loop.trips) : Fin 2 → Nat :=
  let c0_i32_184 : BitVec 32 := 0#32
  let c1_i32_186 : BitVec 32 := 1#32
  let arg18 : BitVec 32 := Scf.iv c0_i32_184 c1_i32_186 k1_t7
  let v460 : Index := Scalar.indexCast arg18
  let c192_223 : Index := 192#32
  ![v460.toNat, 192]
def k1_off112 (k1_t7 : Fin k1_t7_loop.trips) : Fin 2 → Nat :=
  let c0_i32_184 : BitVec 32 := 0#32
  let c1_i32_186 : BitVec 32 := 1#32
  let arg18 : BitVec 32 := Scf.iv c0_i32_184 c1_i32_186 k1_t7
  let v466 : Index := Scalar.indexCast arg18
  let c208_224 : Index := 208#32
  ![v466.toNat, 208]
def k1_off113 (k1_t7 : Fin k1_t7_loop.trips) : Fin 2 → Nat :=
  let c0_i32_184 : BitVec 32 := 0#32
  let c1_i32_186 : BitVec 32 := 1#32
  let arg18 : BitVec 32 := Scf.iv c0_i32_184 c1_i32_186 k1_t7
  let v472 : Index := Scalar.indexCast arg18
  let c224_225 : Index := 224#32
  ![v472.toNat, 224]
def k1_off114 (k1_t7 : Fin k1_t7_loop.trips) : Fin 2 → Nat :=
  let c0_i32_184 : BitVec 32 := 0#32
  let c1_i32_186 : BitVec 32 := 1#32
  let arg18 : BitVec 32 := Scf.iv c0_i32_184 c1_i32_186 k1_t7
  let v478 : Index := Scalar.indexCast arg18
  let c240_226 : Index := 240#32
  ![v478.toNat, 240]
@[reducible] def k1_t8_loop : Scf.Loop 32 :=
  let c0_i32_206 : BitVec 32 := 0#32
  let c128_i32_207 : BitVec 32 := 128#32
  let v368 : BitVec 32 := Scalar.addi c0_i32_206 c128_i32_207
  let c1_i32_208 : BitVec 32 := 1#32
  ⟨c0_i32_206, v368, c1_i32_208⟩
def k1_off115 (k1_t8 : Fin k1_t8_loop.trips) : Fin 2 → Nat :=
  let c0_i32_206 : BitVec 32 := 0#32
  let c1_i32_208 : BitVec 32 := 1#32
  let arg18 : BitVec 32 := Scf.iv c0_i32_206 c1_i32_208 k1_t8
  let v388 : Index := Scalar.indexCast arg18
  let c0_211 : Index := 0#32
  ![v388.toNat, 0]
def k1_off116 (k1_t8 : Fin k1_t8_loop.trips) : Fin 2 → Nat :=
  let c0_i32_206 : BitVec 32 := 0#32
  let c1_i32_208 : BitVec 32 := 1#32
  let arg18 : BitVec 32 := Scf.iv c0_i32_206 c1_i32_208 k1_t8
  let v394 : Index := Scalar.indexCast arg18
  let c16_212 : Index := 16#32
  ![v394.toNat, 16]
def k1_off117 (k1_t8 : Fin k1_t8_loop.trips) : Fin 2 → Nat :=
  let c0_i32_206 : BitVec 32 := 0#32
  let c1_i32_208 : BitVec 32 := 1#32
  let arg18 : BitVec 32 := Scf.iv c0_i32_206 c1_i32_208 k1_t8
  let v400 : Index := Scalar.indexCast arg18
  let c32_213 : Index := 32#32
  ![v400.toNat, 32]
def k1_off118 (k1_t8 : Fin k1_t8_loop.trips) : Fin 2 → Nat :=
  let c0_i32_206 : BitVec 32 := 0#32
  let c1_i32_208 : BitVec 32 := 1#32
  let arg18 : BitVec 32 := Scf.iv c0_i32_206 c1_i32_208 k1_t8
  let v406 : Index := Scalar.indexCast arg18
  let c48_214 : Index := 48#32
  ![v406.toNat, 48]
def k1_off119 (k1_t8 : Fin k1_t8_loop.trips) : Fin 2 → Nat :=
  let c0_i32_206 : BitVec 32 := 0#32
  let c1_i32_208 : BitVec 32 := 1#32
  let arg18 : BitVec 32 := Scf.iv c0_i32_206 c1_i32_208 k1_t8
  let v412 : Index := Scalar.indexCast arg18
  let c64_215 : Index := 64#32
  ![v412.toNat, 64]
def k1_off120 (k1_t8 : Fin k1_t8_loop.trips) : Fin 2 → Nat :=
  let c0_i32_206 : BitVec 32 := 0#32
  let c1_i32_208 : BitVec 32 := 1#32
  let arg18 : BitVec 32 := Scf.iv c0_i32_206 c1_i32_208 k1_t8
  let v418 : Index := Scalar.indexCast arg18
  let c80_216 : Index := 80#32
  ![v418.toNat, 80]
def k1_off121 (k1_t8 : Fin k1_t8_loop.trips) : Fin 2 → Nat :=
  let c0_i32_206 : BitVec 32 := 0#32
  let c1_i32_208 : BitVec 32 := 1#32
  let arg18 : BitVec 32 := Scf.iv c0_i32_206 c1_i32_208 k1_t8
  let v424 : Index := Scalar.indexCast arg18
  let c96_217 : Index := 96#32
  ![v424.toNat, 96]
def k1_off122 (k1_t8 : Fin k1_t8_loop.trips) : Fin 2 → Nat :=
  let c0_i32_206 : BitVec 32 := 0#32
  let c1_i32_208 : BitVec 32 := 1#32
  let arg18 : BitVec 32 := Scf.iv c0_i32_206 c1_i32_208 k1_t8
  let v430 : Index := Scalar.indexCast arg18
  let c112_218 : Index := 112#32
  ![v430.toNat, 112]
def k1_off123 (k1_t8 : Fin k1_t8_loop.trips) : Fin 2 → Nat :=
  let c0_i32_206 : BitVec 32 := 0#32
  let c1_i32_208 : BitVec 32 := 1#32
  let arg18 : BitVec 32 := Scf.iv c0_i32_206 c1_i32_208 k1_t8
  let v436 : Index := Scalar.indexCast arg18
  let c128_219 : Index := 128#32
  ![v436.toNat, 128]
def k1_off124 (k1_t8 : Fin k1_t8_loop.trips) : Fin 2 → Nat :=
  let c0_i32_206 : BitVec 32 := 0#32
  let c1_i32_208 : BitVec 32 := 1#32
  let arg18 : BitVec 32 := Scf.iv c0_i32_206 c1_i32_208 k1_t8
  let v442 : Index := Scalar.indexCast arg18
  let c144_220 : Index := 144#32
  ![v442.toNat, 144]
def k1_off125 (k1_t8 : Fin k1_t8_loop.trips) : Fin 2 → Nat :=
  let c0_i32_206 : BitVec 32 := 0#32
  let c1_i32_208 : BitVec 32 := 1#32
  let arg18 : BitVec 32 := Scf.iv c0_i32_206 c1_i32_208 k1_t8
  let v448 : Index := Scalar.indexCast arg18
  let c160_221 : Index := 160#32
  ![v448.toNat, 160]
def k1_off126 (k1_t8 : Fin k1_t8_loop.trips) : Fin 2 → Nat :=
  let c0_i32_206 : BitVec 32 := 0#32
  let c1_i32_208 : BitVec 32 := 1#32
  let arg18 : BitVec 32 := Scf.iv c0_i32_206 c1_i32_208 k1_t8
  let v454 : Index := Scalar.indexCast arg18
  let c176_222 : Index := 176#32
  ![v454.toNat, 176]
def k1_off127 (k1_t8 : Fin k1_t8_loop.trips) : Fin 2 → Nat :=
  let c0_i32_206 : BitVec 32 := 0#32
  let c1_i32_208 : BitVec 32 := 1#32
  let arg18 : BitVec 32 := Scf.iv c0_i32_206 c1_i32_208 k1_t8
  let v460 : Index := Scalar.indexCast arg18
  let c192_223 : Index := 192#32
  ![v460.toNat, 192]
def k1_off128 (k1_t8 : Fin k1_t8_loop.trips) : Fin 2 → Nat :=
  let c0_i32_206 : BitVec 32 := 0#32
  let c1_i32_208 : BitVec 32 := 1#32
  let arg18 : BitVec 32 := Scf.iv c0_i32_206 c1_i32_208 k1_t8
  let v466 : Index := Scalar.indexCast arg18
  let c208_224 : Index := 208#32
  ![v466.toNat, 208]
def k1_off129 (k1_t8 : Fin k1_t8_loop.trips) : Fin 2 → Nat :=
  let c0_i32_206 : BitVec 32 := 0#32
  let c1_i32_208 : BitVec 32 := 1#32
  let arg18 : BitVec 32 := Scf.iv c0_i32_206 c1_i32_208 k1_t8
  let v472 : Index := Scalar.indexCast arg18
  let c224_225 : Index := 224#32
  ![v472.toNat, 224]
def k1_off130 (k1_t8 : Fin k1_t8_loop.trips) : Fin 2 → Nat :=
  let c0_i32_206 : BitVec 32 := 0#32
  let c1_i32_208 : BitVec 32 := 1#32
  let arg18 : BitVec 32 := Scf.iv c0_i32_206 c1_i32_208 k1_t8
  let v478 : Index := Scalar.indexCast arg18
  let c240_226 : Index := 240#32
  ![v478.toNat, 240]
def k1_off131 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_211_r2 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x256 : Shape := ⟨2, ![16, 256]⟩
abbrev S32768x256 : Shape := ⟨2, ![32768, 256]⟩
abbrev S16 : Shape := ⟨1, ![16]⟩
abbrev S1 : Shape := ⟨1, ![1]⟩
abbrev S15 : Shape := ⟨1, ![15]⟩
abbrev S_ : Shape := ⟨0, ![]⟩
abbrev S32768 : Shape := ⟨1, ![32768]⟩
abbrev S16x1 : Shape := ⟨2, ![16, 1]⟩
abbrev S32768x1 : Shape := ⟨2, ![32768, 1]⟩
abbrev S1x1 : Shape := ⟨2, ![1, 1]⟩

abbrev nBuf : Space → Nat
  | .hbm => 219
  | .vmem => 0
  | .smem => 0
  | _ => 0

abbrev hbmTy0_0 (i : Nat) : BufTy := match i % 128 with
  | 0 => ⟨S16x256, .f32⟩
  | 1 => ⟨S16x256, .f32⟩
  | 2 => ⟨S32768x256, .f32⟩
  | 3 => ⟨S32768x256, .f32⟩
  | 4 => ⟨S32768x256, .f32⟩
  | 5 => ⟨S32768x256, .f32⟩
  | 6 => ⟨S16, .i32⟩
  | 7 => ⟨S16, .i32⟩
  | 8 => ⟨S16, .i32⟩
  | 9 => ⟨S1, .i32⟩
  | 10 => ⟨S15, .i32⟩
  | 11 => ⟨S16, .i32⟩
  | 12 => ⟨S_, .i32⟩
  | 13 => ⟨S1, .i32⟩
  | 14 => ⟨S_, .i32⟩
  | 15 => ⟨S16, .i32⟩
  | 16 => ⟨S_, .i32⟩
  | 17 => ⟨S_, .i32⟩
  | 18 => ⟨S16, .i32⟩
  | 19 => ⟨S_, .i32⟩
  | 20 => ⟨S32768, .i32⟩
  | 21 => ⟨S_, .i32⟩
  | 22 => ⟨S16, .i32⟩
  | 23 => ⟨S16, .i1⟩
  | 24 => ⟨S_, .i32⟩
  | 25 => ⟨S16, .i32⟩
  | 26 => ⟨S16, .i32⟩
  | 27 => ⟨S16, .i32⟩
  | 28 => ⟨S16x1, .i32⟩
  | 29 => ⟨S_, .i32⟩
  | 30 => ⟨S16, .i32⟩
  | 31 => ⟨S32768, .i32⟩
  | 32 => ⟨S_, .i32⟩
  | 33 => ⟨S_, .i32⟩
  | 34 => ⟨S32768, .i32⟩
  | 35 => ⟨S_, .i32⟩
  | 36 => ⟨S32768, .i32⟩
  | 37 => ⟨S32768, .i32⟩
  | 38 => ⟨S_, .i32⟩
  | 39 => ⟨S32768, .i32⟩
  | 40 => ⟨S32768, .i1⟩
  | 41 => ⟨S_, .i32⟩
  | 42 => ⟨S32768, .i32⟩
  | 43 => ⟨S32768, .i32⟩
  | 44 => ⟨S32768, .i32⟩
  | 45 => ⟨S32768x1, .i32⟩
  | 46 => ⟨S1, .i32⟩
  | 47 => ⟨S_, .i32⟩
  | 48 => ⟨S32768x1, .i32⟩
  | 49 => ⟨S32768x1, .i1⟩
  | 50 => ⟨S1x1, .i32⟩
  | 51 => ⟨S32768x1, .i32⟩
  | 52 => ⟨S32768x1, .i1⟩
  | 53 => ⟨S32768x1, .i1⟩
  | 54 => ⟨S_, .i1⟩
  | 55 => ⟨S32768, .i1⟩
  | 56 => ⟨S32768, .i32⟩
  | 57 => ⟨S_, .i32⟩
  | 58 => ⟨S32768, .i32⟩
  | 59 => ⟨S32768, .i32⟩
  | 60 => ⟨S16, .i32⟩
  | 61 => ⟨S1, .i32⟩
  | 62 => ⟨S15, .i32⟩
  | 63 => ⟨S16, .i32⟩
  | 64 => ⟨S_, .i32⟩
  | 65 => ⟨S1, .i32⟩
  | 66 => ⟨S_, .i32⟩
  | 67 => ⟨S16, .i32⟩
  | 68 => ⟨S_, .i32⟩
  | 69 => ⟨S_, .i32⟩
  | 70 => ⟨S16, .i32⟩
  | 71 => ⟨S_, .i32⟩
  | 72 => ⟨S32768, .i32⟩
  | 73 => ⟨S_, .i32⟩
  | 74 => ⟨S16, .i32⟩
  | 75 => ⟨S16, .i1⟩
  | 76 => ⟨S_, .i32⟩
  | 77 => ⟨S16, .i32⟩
  | 78 => ⟨S16, .i32⟩
  | 79 => ⟨S16, .i32⟩
  | 80 => ⟨S16x1, .i32⟩
  | 81 => ⟨S_, .i32⟩
  | 82 => ⟨S16, .i32⟩
  | 83 => ⟨S32768, .i32⟩
  | 84 => ⟨S_, .i32⟩
  | 85 => ⟨S_, .i32⟩
  | 86 => ⟨S32768, .i32⟩
  | 87 => ⟨S_, .i32⟩
  | 88 => ⟨S32768, .i32⟩
  | 89 => ⟨S32768, .i32⟩
  | 90 => ⟨S_, .i32⟩
  | 91 => ⟨S32768, .i32⟩
  | 92 => ⟨S32768, .i1⟩
  | 93 => ⟨S_, .i32⟩
  | 94 => ⟨S32768, .i32⟩
  | 95 => ⟨S32768, .i32⟩
  | 96 => ⟨S32768, .i32⟩
  | 97 => ⟨S32768x1, .i32⟩
  | 98 => ⟨S1, .i32⟩
  | 99 => ⟨S_, .i32⟩
  | 100 => ⟨S32768x1, .i32⟩
  | 101 => ⟨S32768x1, .i1⟩
  | 102 => ⟨S1x1, .i32⟩
  | 103 => ⟨S32768x1, .i32⟩
  | 104 => ⟨S32768x1, .i1⟩
  | 105 => ⟨S32768x1, .i1⟩
  | 106 => ⟨S_, .i1⟩
  | 107 => ⟨S32768, .i1⟩
  | 108 => ⟨S32768, .i32⟩
  | 109 => ⟨S_, .i32⟩
  | 110 => ⟨S32768, .i32⟩
  | 111 => ⟨S32768, .i32⟩
  | 112 => ⟨S_, .i32⟩
  | 113 => ⟨S32768, .i32⟩
  | 114 => ⟨S32768, .i1⟩
  | 115 => ⟨S_, .i32⟩
  | 116 => ⟨S32768, .i32⟩
  | 117 => ⟨S32768, .i32⟩
  | 118 => ⟨S32768, .i32⟩
  | 119 => ⟨S32768x1, .i32⟩
  | 120 => ⟨S32768x256, .f32⟩
  | 121 => ⟨S32768x256, .f32⟩
  | 122 => ⟨S32768x256, .f32⟩
  | 123 => ⟨S_, .f32⟩
  | 124 => ⟨S32768, .f32⟩
  | 125 => ⟨S_, .f32⟩
  | 126 => ⟨S16, .f32⟩
  | 127 => ⟨S32768x1, .i32⟩
  | _ => ⟨S16x256, .f32⟩

abbrev hbmTy0_1 (i : Nat) : BufTy := match i % 128 with
  | 0 => ⟨S16, .f32⟩
  | 1 => ⟨S16, .f32⟩
  | 2 => ⟨S_, .f32⟩
  | 3 => ⟨S16, .f32⟩
  | 4 => ⟨S16, .f32⟩
  | 5 => ⟨S16, .f32⟩
  | 6 => ⟨S_, .f32⟩
  | 7 => ⟨S_, .f32⟩
  | 8 => ⟨S_, .f32⟩
  | 9 => ⟨S_, .f32⟩
  | 10 => ⟨S_, .i32⟩
  | 11 => ⟨S32768, .i32⟩
  | 12 => ⟨S32768, .i1⟩
  | 13 => ⟨S_, .i32⟩
  | 14 => ⟨S32768, .i32⟩
  | 15 => ⟨S32768, .i32⟩
  | 16 => ⟨S32768, .i32⟩
  | 17 => ⟨S32768x1, .i32⟩
  | 18 => ⟨S32768x256, .f32⟩
  | 19 => ⟨S32768x256, .f32⟩
  | 20 => ⟨S32768x256, .f32⟩
  | 21 => ⟨S_, .f32⟩
  | 22 => ⟨S32768, .f32⟩
  | 23 => ⟨S_, .f32⟩
  | 24 => ⟨S16, .f32⟩
  | 25 => ⟨S32768x1, .i32⟩
  | 26 => ⟨S16, .f32⟩
  | 27 => ⟨S16, .f32⟩
  | 28 => ⟨S_, .f32⟩
  | 29 => ⟨S16, .f32⟩
  | 30 => ⟨S16, .f32⟩
  | 31 => ⟨S16, .f32⟩
  | 32 => ⟨S_, .f32⟩
  | 33 => ⟨S_, .f32⟩
  | 34 => ⟨S_, .f32⟩
  | 35 => ⟨S_, .f32⟩
  | 36 => ⟨S_, .i32⟩
  | 37 => ⟨S32768, .i32⟩
  | 38 => ⟨S32768, .i1⟩
  | 39 => ⟨S_, .i32⟩
  | 40 => ⟨S32768, .i32⟩
  | 41 => ⟨S32768, .i32⟩
  | 42 => ⟨S32768, .i32⟩
  | 43 => ⟨S32768x1, .i32⟩
  | 44 => ⟨S32768x256, .f32⟩
  | 45 => ⟨S32768x256, .f32⟩
  | 46 => ⟨S32768x256, .f32⟩
  | 47 => ⟨S_, .f32⟩
  | 48 => ⟨S32768, .f32⟩
  | 49 => ⟨S_, .f32⟩
  | 50 => ⟨S16, .f32⟩
  | 51 => ⟨S32768x1, .i32⟩
  | 52 => ⟨S16, .f32⟩
  | 53 => ⟨S16, .f32⟩
  | 54 => ⟨S_, .f32⟩
  | 55 => ⟨S16, .f32⟩
  | 56 => ⟨S16, .f32⟩
  | 57 => ⟨S16, .f32⟩
  | 58 => ⟨S_, .f32⟩
  | 59 => ⟨S_, .f32⟩
  | 60 => ⟨S_, .f32⟩
  | 61 => ⟨S_, .f32⟩
  | 62 => ⟨S_, .i32⟩
  | 63 => ⟨S32768, .i32⟩
  | 64 => ⟨S32768, .i1⟩
  | 65 => ⟨S_, .i32⟩
  | 66 => ⟨S32768, .i32⟩
  | 67 => ⟨S32768, .i32⟩
  | 68 => ⟨S32768, .i32⟩
  | 69 => ⟨S32768x1, .i32⟩
  | 70 => ⟨S32768x256, .f32⟩
  | 71 => ⟨S32768x256, .f32⟩
  | 72 => ⟨S32768x256, .f32⟩
  | 73 => ⟨S_, .f32⟩
  | 74 => ⟨S32768, .f32⟩
  | 75 => ⟨S_, .f32⟩
  | 76 => ⟨S16, .f32⟩
  | 77 => ⟨S32768x1, .i32⟩
  | 78 => ⟨S16, .f32⟩
  | 79 => ⟨S16, .f32⟩
  | 80 => ⟨S_, .f32⟩
  | 81 => ⟨S16, .f32⟩
  | 82 => ⟨S16, .f32⟩
  | 83 => ⟨S16, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | _ => ⟨S16x256, .f32⟩

abbrev hbmTy (i : Nat) : BufTy := match i / 128 with
  | 0 => hbmTy0_0 i
  | 1 => hbmTy0_1 i
  | _ => ⟨S16x256, .f32⟩

abbrev bufTy : (tb : Table) → Fin (tcTables nBuf tb) → BufTy
  | .hbm, ⟨i, _⟩ => hbmTy i
  | _, _ => ⟨S16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_v0 : Ref sig .tc := ⟨.hbm, 9, rfl⟩
abbrev main_call0_v1 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_call1_call0_c : Ref sig .tc := ⟨.hbm, 16, rfl⟩
abbrev main_call1_call0_v0 : Ref sig .tc := ⟨.hbm, 17, rfl⟩
abbrev main_v4 : Ref sig .tc := ⟨.hbm, 18, rfl⟩
abbrev main_c_1 : Ref sig .tc := ⟨.hbm, 19, rfl⟩
abbrev main_v5 : Ref sig .tc := ⟨.hbm, 20, rfl⟩
abbrev main_c_2 : Ref sig .tc := ⟨.hbm, 21, rfl⟩
abbrev main_v6 : Ref sig .tc := ⟨.hbm, 22, rfl⟩
abbrev main_v7 : Ref sig .tc := ⟨.hbm, 23, rfl⟩
abbrev main_c_3 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c_4 : Ref sig .tc := ⟨.hbm, 29, rfl⟩
abbrev main_v12 : Ref sig .tc := ⟨.hbm, 30, rfl⟩
abbrev main_v13 : Ref sig .tc := ⟨.hbm, 31, rfl⟩
abbrev main_call2_call0_c : Ref sig .tc := ⟨.hbm, 32, rfl⟩
abbrev main_call2_call0_v0 : Ref sig .tc := ⟨.hbm, 33, rfl⟩
abbrev main_v14 : Ref sig .tc := ⟨.hbm, 34, rfl⟩
abbrev main_c_5 : Ref sig .tc := ⟨.hbm, 35, rfl⟩
abbrev main_v15 : Ref sig .tc := ⟨.hbm, 36, rfl⟩
abbrev main_v16 : Ref sig .tc := ⟨.hbm, 37, rfl⟩
abbrev main_call3_c : Ref sig .tc := ⟨.hbm, 38, rfl⟩
abbrev main_call3_v0 : Ref sig .tc := ⟨.hbm, 39, rfl⟩
abbrev main_call3_v1 : Ref sig .tc := ⟨.hbm, 40, rfl⟩
abbrev main_call3_c_0 : Ref sig .tc := ⟨.hbm, 41, rfl⟩
abbrev main_call3_v2 : Ref sig .tc := ⟨.hbm, 42, rfl⟩
abbrev main_call3_v3 : Ref sig .tc := ⟨.hbm, 43, rfl⟩
abbrev main_call3_v4 : Ref sig .tc := ⟨.hbm, 44, rfl⟩
abbrev main_call3_v5 : Ref sig .tc := ⟨.hbm, 45, rfl⟩
abbrev main_call3_c_1 : Ref sig .tc := ⟨.hbm, 46, rfl⟩
abbrev main_call3_c_2 : Ref sig .tc := ⟨.hbm, 47, rfl⟩
abbrev main_call3_v6 : Ref sig .tc := ⟨.hbm, 48, rfl⟩
abbrev main_call3_v7 : Ref sig .tc := ⟨.hbm, 49, rfl⟩
abbrev main_call3_v8 : Ref sig .tc := ⟨.hbm, 50, rfl⟩
abbrev main_call3_v9 : Ref sig .tc := ⟨.hbm, 51, rfl⟩
abbrev main_call3_v10 : Ref sig .tc := ⟨.hbm, 52, rfl⟩
abbrev main_call3_v11 : Ref sig .tc := ⟨.hbm, 53, rfl⟩
abbrev main_call3_c_3 : Ref sig .tc := ⟨.hbm, 54, rfl⟩
abbrev main_call3_v12 : Ref sig .tc := ⟨.hbm, 55, rfl⟩
abbrev main_call3_v13 : Ref sig .tc := ⟨.hbm, 56, rfl⟩
abbrev main_call3_c_4 : Ref sig .tc := ⟨.hbm, 57, rfl⟩
abbrev main_call3_v14 : Ref sig .tc := ⟨.hbm, 58, rfl⟩
abbrev main_v17 : Ref sig .tc := ⟨.hbm, 59, rfl⟩
abbrev main_v18 : Ref sig .tc := ⟨.hbm, 60, rfl⟩
abbrev main_call4_v0 : Ref sig .tc := ⟨.hbm, 61, rfl⟩
abbrev main_call4_v1 : Ref sig .tc := ⟨.hbm, 62, rfl⟩
abbrev main_v19 : Ref sig .tc := ⟨.hbm, 63, rfl⟩
abbrev main_c_6 : Ref sig .tc := ⟨.hbm, 64, rfl⟩
abbrev main_v20 : Ref sig .tc := ⟨.hbm, 65, rfl⟩
abbrev main_c_7 : Ref sig .tc := ⟨.hbm, 66, rfl⟩
abbrev main_v21 : Ref sig .tc := ⟨.hbm, 67, rfl⟩
abbrev main_call5_call0_c : Ref sig .tc := ⟨.hbm, 68, rfl⟩
abbrev main_call5_call0_v0 : Ref sig .tc := ⟨.hbm, 69, rfl⟩
abbrev main_v22 : Ref sig .tc := ⟨.hbm, 70, rfl⟩
abbrev main_c_8 : Ref sig .tc := ⟨.hbm, 71, rfl⟩
abbrev main_v23 : Ref sig .tc := ⟨.hbm, 72, rfl⟩
abbrev main_c_9 : Ref sig .tc := ⟨.hbm, 73, rfl⟩
abbrev main_v24 : Ref sig .tc := ⟨.hbm, 74, rfl⟩
abbrev main_v25 : Ref sig .tc := ⟨.hbm, 75, rfl⟩
abbrev main_c_10 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_c_11 : Ref sig .tc := ⟨.hbm, 81, rfl⟩
abbrev main_v30 : Ref sig .tc := ⟨.hbm, 82, rfl⟩
abbrev main_v31 : Ref sig .tc := ⟨.hbm, 83, rfl⟩
abbrev main_call6_call0_c : Ref sig .tc := ⟨.hbm, 84, rfl⟩
abbrev main_call6_call0_v0 : Ref sig .tc := ⟨.hbm, 85, rfl⟩
abbrev main_v32 : Ref sig .tc := ⟨.hbm, 86, rfl⟩
abbrev main_c_12 : Ref sig .tc := ⟨.hbm, 87, rfl⟩
abbrev main_v33 : Ref sig .tc := ⟨.hbm, 88, rfl⟩
abbrev main_v34 : Ref sig .tc := ⟨.hbm, 89, rfl⟩
abbrev main_call7_c : Ref sig .tc := ⟨.hbm, 90, rfl⟩
abbrev main_call7_v0 : Ref sig .tc := ⟨.hbm, 91, rfl⟩
abbrev main_call7_v1 : Ref sig .tc := ⟨.hbm, 92, rfl⟩
abbrev main_call7_c_0 : Ref sig .tc := ⟨.hbm, 93, rfl⟩
abbrev main_call7_v2 : Ref sig .tc := ⟨.hbm, 94, rfl⟩
abbrev main_call7_v3 : Ref sig .tc := ⟨.hbm, 95, rfl⟩
abbrev main_call7_v4 : Ref sig .tc := ⟨.hbm, 96, rfl⟩
abbrev main_call7_v5 : Ref sig .tc := ⟨.hbm, 97, rfl⟩
abbrev main_call7_c_1 : Ref sig .tc := ⟨.hbm, 98, rfl⟩
abbrev main_call7_c_2 : Ref sig .tc := ⟨.hbm, 99, rfl⟩
abbrev main_call7_v6 : Ref sig .tc := ⟨.hbm, 100, rfl⟩
abbrev main_call7_v7 : Ref sig .tc := ⟨.hbm, 101, rfl⟩
abbrev main_call7_v8 : Ref sig .tc := ⟨.hbm, 102, rfl⟩
abbrev main_call7_v9 : Ref sig .tc := ⟨.hbm, 103, rfl⟩
abbrev main_call7_v10 : Ref sig .tc := ⟨.hbm, 104, rfl⟩
abbrev main_call7_v11 : Ref sig .tc := ⟨.hbm, 105, rfl⟩
abbrev main_call7_c_3 : Ref sig .tc := ⟨.hbm, 106, rfl⟩
abbrev main_call7_v12 : Ref sig .tc := ⟨.hbm, 107, rfl⟩
abbrev main_call7_v13 : Ref sig .tc := ⟨.hbm, 108, rfl⟩
abbrev main_call7_c_4 : Ref sig .tc := ⟨.hbm, 109, rfl⟩
abbrev main_call7_v14 : Ref sig .tc := ⟨.hbm, 110, rfl⟩
abbrev main_v35 : Ref sig .tc := ⟨.hbm, 111, rfl⟩
abbrev main_c_13 : Ref sig .tc := ⟨.hbm, 112, rfl⟩
abbrev main_v36 : Ref sig .tc := ⟨.hbm, 113, rfl⟩
abbrev main_v37 : Ref sig .tc := ⟨.hbm, 114, rfl⟩
abbrev main_c_14 : Ref sig .tc := ⟨.hbm, 115, rfl⟩
abbrev main_v38 : Ref sig .tc := ⟨.hbm, 116, rfl⟩
abbrev main_v39 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩
abbrev main_cst : Ref sig .tc := ⟨.hbm, 123, rfl⟩
abbrev main_v45 : Ref sig .tc := ⟨.hbm, 124, rfl⟩
abbrev main_cst_15 : Ref sig .tc := ⟨.hbm, 125, rfl⟩
abbrev main_v46 : Ref sig .tc := ⟨.hbm, 126, rfl⟩
abbrev main_v47 : Ref sig .tc := ⟨.hbm, 127, rfl⟩
abbrev main_v48 : Ref sig .tc := ⟨.hbm, 128, rfl⟩
abbrev main_v49 : Ref sig .tc := ⟨.hbm, 129, rfl⟩
abbrev main_cst_16 : Ref sig .tc := ⟨.hbm, 130, rfl⟩
abbrev main_v50 : Ref sig .tc := ⟨.hbm, 131, rfl⟩
abbrev main_v51 : Ref sig .tc := ⟨.hbm, 132, rfl⟩
abbrev main_v52 : Ref sig .tc := ⟨.hbm, 133, rfl⟩
abbrev main_cst_17 : Ref sig .tc := ⟨.hbm, 134, rfl⟩
abbrev main_v53 : Ref sig .tc := ⟨.hbm, 135, rfl⟩
abbrev main_cst_18 : Ref sig .tc := ⟨.hbm, 136, rfl⟩
abbrev main_v54 : Ref sig .tc := ⟨.hbm, 137, rfl⟩
abbrev main_c_19 : Ref sig .tc := ⟨.hbm, 138, rfl⟩
abbrev main_v55 : Ref sig .tc := ⟨.hbm, 139, rfl⟩
abbrev main_v56 : Ref sig .tc := ⟨.hbm, 140, rfl⟩
abbrev main_c_20 : Ref sig .tc := ⟨.hbm, 141, rfl⟩
abbrev main_v57 : Ref sig .tc := ⟨.hbm, 142, rfl⟩
abbrev main_v58 : Ref sig .tc := ⟨.hbm, 143, rfl⟩
abbrev main_v59 : Ref sig .tc := ⟨.hbm, 144, rfl⟩
abbrev main_v60 : Ref sig .tc := ⟨.hbm, 145, rfl⟩
abbrev main_v61 : Ref sig .tc := ⟨.hbm, 146, rfl⟩
abbrev main_v62 : Ref sig .tc := ⟨.hbm, 147, rfl⟩
abbrev main_v63 : Ref sig .tc := ⟨.hbm, 148, rfl⟩
abbrev main_cst_21 : Ref sig .tc := ⟨.hbm, 149, rfl⟩
abbrev main_v64 : Ref sig .tc := ⟨.hbm, 150, rfl⟩
abbrev main_cst_22 : Ref sig .tc := ⟨.hbm, 151, rfl⟩
abbrev main_v65 : Ref sig .tc := ⟨.hbm, 152, rfl⟩
abbrev main_v66 : Ref sig .tc := ⟨.hbm, 153, rfl⟩
abbrev main_v67 : Ref sig .tc := ⟨.hbm, 154, rfl⟩
abbrev main_v68 : Ref sig .tc := ⟨.hbm, 155, rfl⟩
abbrev main_cst_23 : Ref sig .tc := ⟨.hbm, 156, rfl⟩
abbrev main_v69 : Ref sig .tc := ⟨.hbm, 157, rfl⟩
abbrev main_v70 : Ref sig .tc := ⟨.hbm, 158, rfl⟩
abbrev main_v71 : Ref sig .tc := ⟨.hbm, 159, rfl⟩
abbrev main_cst_24 : Ref sig .tc := ⟨.hbm, 160, rfl⟩
abbrev main_v72 : Ref sig .tc := ⟨.hbm, 161, rfl⟩
abbrev main_cst_25 : Ref sig .tc := ⟨.hbm, 162, rfl⟩
abbrev main_v73 : Ref sig .tc := ⟨.hbm, 163, rfl⟩
abbrev main_c_26 : Ref sig .tc := ⟨.hbm, 164, rfl⟩
abbrev main_v74 : Ref sig .tc := ⟨.hbm, 165, rfl⟩
abbrev main_v75 : Ref sig .tc := ⟨.hbm, 166, rfl⟩
abbrev main_c_27 : Ref sig .tc := ⟨.hbm, 167, rfl⟩
abbrev main_v76 : Ref sig .tc := ⟨.hbm, 168, rfl⟩
abbrev main_v77 : Ref sig .tc := ⟨.hbm, 169, rfl⟩
abbrev main_v78 : Ref sig .tc := ⟨.hbm, 170, rfl⟩
abbrev main_v79 : Ref sig .tc := ⟨.hbm, 171, rfl⟩
abbrev main_v80 : Ref sig .tc := ⟨.hbm, 172, rfl⟩
abbrev main_v81 : Ref sig .tc := ⟨.hbm, 173, rfl⟩
abbrev main_v82 : Ref sig .tc := ⟨.hbm, 174, rfl⟩
abbrev main_cst_28 : Ref sig .tc := ⟨.hbm, 175, rfl⟩
abbrev main_v83 : Ref sig .tc := ⟨.hbm, 176, rfl⟩
abbrev main_cst_29 : Ref sig .tc := ⟨.hbm, 177, rfl⟩
abbrev main_v84 : Ref sig .tc := ⟨.hbm, 178, rfl⟩
abbrev main_v85 : Ref sig .tc := ⟨.hbm, 179, rfl⟩
abbrev main_v86 : Ref sig .tc := ⟨.hbm, 180, rfl⟩
abbrev main_v87 : Ref sig .tc := ⟨.hbm, 181, rfl⟩
abbrev main_cst_30 : Ref sig .tc := ⟨.hbm, 182, rfl⟩
abbrev main_v88 : Ref sig .tc := ⟨.hbm, 183, rfl⟩
abbrev main_v89 : Ref sig .tc := ⟨.hbm, 184, rfl⟩
abbrev main_v90 : Ref sig .tc := ⟨.hbm, 185, rfl⟩
abbrev main_cst_31 : Ref sig .tc := ⟨.hbm, 186, rfl⟩
abbrev main_v91 : Ref sig .tc := ⟨.hbm, 187, rfl⟩
abbrev main_cst_32 : Ref sig .tc := ⟨.hbm, 188, rfl⟩
abbrev main_v92 : Ref sig .tc := ⟨.hbm, 189, rfl⟩
abbrev main_c_33 : Ref sig .tc := ⟨.hbm, 190, rfl⟩
abbrev main_v93 : Ref sig .tc := ⟨.hbm, 191, rfl⟩
abbrev main_v94 : Ref sig .tc := ⟨.hbm, 192, rfl⟩
abbrev main_c_34 : Ref sig .tc := ⟨.hbm, 193, rfl⟩
abbrev main_v95 : Ref sig .tc := ⟨.hbm, 194, rfl⟩
abbrev main_v96 : Ref sig .tc := ⟨.hbm, 195, rfl⟩
abbrev main_v97 : Ref sig .tc := ⟨.hbm, 196, rfl⟩
abbrev main_v98 : Ref sig .tc := ⟨.hbm, 197, rfl⟩
abbrev main_v99 : Ref sig .tc := ⟨.hbm, 198, rfl⟩
abbrev main_v100 : Ref sig .tc := ⟨.hbm, 199, rfl⟩
abbrev main_v101 : Ref sig .tc := ⟨.hbm, 200, rfl⟩
abbrev main_cst_35 : Ref sig .tc := ⟨.hbm, 201, rfl⟩
abbrev main_v102 : Ref sig .tc := ⟨.hbm, 202, rfl⟩
abbrev main_cst_36 : Ref sig .tc := ⟨.hbm, 203, rfl⟩
abbrev main_v103 : Ref sig .tc := ⟨.hbm, 204, rfl⟩
abbrev main_v104 : Ref sig .tc := ⟨.hbm, 205, rfl⟩
abbrev main_v105 : Ref sig .tc := ⟨.hbm, 206, rfl⟩
abbrev main_v106 : Ref sig .tc := ⟨.hbm, 207, rfl⟩
abbrev main_cst_37 : Ref sig .tc := ⟨.hbm, 208, rfl⟩
abbrev main_v107 : Ref sig .tc := ⟨.hbm, 209, rfl⟩
abbrev main_v108 : Ref sig .tc := ⟨.hbm, 210, rfl⟩
abbrev main_v109 : Ref sig .tc := ⟨.hbm, 211, rfl⟩
abbrev main_cst_38 : Ref sig .tc := ⟨.hbm, 212, rfl⟩
abbrev main_v110 : Ref sig .tc := ⟨.hbm, 213, rfl⟩
abbrev main_cst_39 : Ref sig .tc := ⟨.hbm, 214, rfl⟩
abbrev main_v111 : Ref sig .tc := ⟨.hbm, 215, rfl⟩
abbrev main_v112 : Ref sig .tc := ⟨.hbm, 216, rfl⟩
abbrev main_v113 : Ref sig .tc := ⟨.hbm, 217, rfl⟩
abbrev main_v114 : Ref sig .tc := ⟨.hbm, 218, rfl⟩

abbrev nD : Nat := 1
abbrev τ : Topo := Topo.v7x

variable {F : FTy → Type} [FloatOps F]
-- ==== Proof.Base.lean ====
/-
  What every module of the certificate shares: the program as the launch theorem sees it, the resource algebra, and the
  arrays' names. The program is `KernelIdeal`'s, over any float values.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := URounds (GSem nD τ sig) Unit
abbrev UU : Type := UH × (UP × Counters)

abbrev EH : Emb UH (MT nD τ sig (HIx 1) (Elt F) ℕ UU ℕ) := embL

/-! ## The arrays, on device `d` -/

abbrev gvLoc (d : Dev nD) : Loc nD τ sig := (SparseCore.T d).loc main_arg0
abbrev gtLoc (d : Dev nD) : Loc nD τ sig := (SparseCore.T d).loc main_arg1
abbrev ovLoc (d : Dev nD) : Loc nD τ sig := (SparseCore.T d).loc main_arg2
abbrev otLoc (d : Dev nD) : Loc nD τ sig := (SparseCore.T d).loc main_arg3
abbrev rvLoc (d : Dev nD) : Loc nD τ sig := (SparseCore.T d).loc main_arg4
abbrev rtLoc (d : Dev nD) : Loc nD τ sig := (SparseCore.T d).loc main_arg5
abbrev oLoc (d : Dev nD) : Loc nD τ sig := (SparseCore.T d).loc main_v1

end Cert.Proof.Run

end
-- ==== Proof.TileValue.lean ====
/-
  What a tile of the SparseCore call computes, as functions of the arrays: the running sums of one chunk of rows, the sixteen
  sums after the eight chunks, and the row of the result the tile writes. The loads of the body are read against them.
-/
module

public import proofs.«01_k».proof.Proof.Base
public import Idealize.ShloMosaic.Lib.ValueIdxCore
public import Idealize.ShloMosaic.Lib.VecWindow

@[expose] public section

noncomputable section

namespace Cert.Proof.Run

open Cert.KernelIdeal Cert.KernelIdeal.Gen
open Idealize.ShloMosaic Idealize.ShloMosaic.ValueIdx

variable {F : FTy → Type}

/-- Sixteen lanes of a row of a chunk: columns `16 c … 16 c + 15` of row `r`. -/
def lane (B : S128x256.Idx → F .f32) (r : Fin 128) (c : Fin 16) : FVec F S16 .f32 :=
  fun i => B (ix2 r ⟨16 * c.val + (i 0).val, by have := idx1 i; omega⟩)
where idx1 (i : S16.Idx) : (i 0).val < 16 := (i 0).isLt

/-- The same lanes of a segment's embedding. -/
def glane (G : S256.Idx → F .f32) (c : Fin 16) : FVec F S16 .f32 :=
  fun i => G (ix1 ⟨16 * c.val + (i 0).val, by have := lane.idx1 i; omega⟩)

/-- Rows `128 h …` of the 256 rows tile `w` reads of an array. -/
def blk (A : S32768x256.Idx → F .f32) (w : Fin 32) (h : Fin 2) : S128x256.Idx → F .f32 :=
  fun j => A (ix2 ⟨24576 + 256 * w.val + 128 * h.val + (j 0).val, by have : (j 0).val < 128 := (j 0).isLt; omega⟩ (j 1))

/-- The embedding of the segment tile `w`'s rows lie in. -/
def grow (A : S16x256.Idx → F .f32) (w : Fin 32) : S256.Idx → F .f32 :=
  fun j => A (ix2 ⟨12 + w.val / 8, by omega⟩ (j 0))

variable [FloatOps F]

/-- One row added to the sixteen running sums. -/
def step (B : S128x256.Idx → F .f32) (G : S256.Idx → F .f32) (r : ℕ) (f : Fin 16 → FVec F S16 .f32) : Fin 16 → FVec F S16 .f32 :=
  fun c => addf (f c) (mulf (subf (lane B (Fin.ofNat 128 r) c) (glane G c)) (subf (lane B (Fin.ofNat 128 r) c) (glane G c)))

/-- The running sums after `n` rows of a chunk. -/
def chunk (B : S128x256.Idx → F .f32) (G : S256.Idx → F .f32) (f : Fin 16 → FVec F S16 .f32) : ℕ → Fin 16 → FVec F S16 .f32
  | 0 => f
  | n + 1 => step B G n (chunk B G f n)

/-- Sixteen running sums, as the loop carries them. -/
abbrev tup (f : Fin 16 → FVec F S16 .f32) :=
  (f 0, f 1, f 2, f 3, f 4, f 5, f 6, f 7, f 8, f 9, f 10, f 11, f 12, f 13, f 14, f 15)

/-- The running sums before the first chunk. -/
def acc0 : Fin 16 → FVec F S16 .f32 := fun _ => broadcast S16 (Scalar.ofBits .f32 0x00000000#32)

/-- The running sums of tile `w` after the two chunks of one array. -/
def accOf (A : S32768x256.Idx → F .f32) (g : S16x256.Idx → F .f32) (w : Fin 32) (f : Fin 16 → FVec F S16 .f32) : Fin 16 → FVec F S16 .f32 :=
  chunk (blk A w 1) (grow g w) (chunk (blk A w 0) (grow g w) f 128) 128

/-- The sixteen running sums added up. -/
def total (f : Fin 16 → FVec F S16 .f32) : FVec F S16 .f32 :=
  addf (addf (addf (addf (addf (addf (addf (addf (addf (addf (addf (addf (addf (addf (addf (f 0) (f 1)) (f 2)) (f 3)) (f 4)) (f 5)) (f 6)) (f 7))
    (f 8)) (f 9)) (f 10)) (f 11)) (f 12)) (f 13)) (f 14)) (f 15)

/-- The row tile `w` writes. -/
def tileRow (ov rv ot rt : S32768x256.Idx → F .f32) (gv gt : S16x256.Idx → F .f32) (w : Fin 32) : FVec F S16 .f32 :=
  total (accOf rt gt w (accOf ot gt w (accOf rv gv w (accOf ov gv w acc0))))

/-- The SparseCore call's result. -/
def scOut (ov rv ot rt : S32768x256.Idx → F .f32) (gv gt : S16x256.Idx → F .f32) : S32x16.Idx → F .f32 :=
  fun j => tileRow ov rv ot rt gv gt (j 0) (ix1 (j 1))

/-! ## The loads of the body -/

omit [FloatOps F] in
theorem rs16 (h : S16.numel = S1x16.numel) : ∀ j : S16.Idx, Shape.reshapeEquiv h j = ix2 (0 : Fin 1) (j 0) := fun j => by
  refine (Shape.reshapeEquiv_cons_one h j).trans ?_
  funext a; match a with | ⟨0, _⟩ => rfl | ⟨1, _⟩ => rfl

omit [FloatOps F] in
theorem rs256 (h : S256.numel = S1x256.numel) : ∀ j : S256.Idx, Shape.reshapeEquiv h j = ix2 (0 : Fin 1) (j 0) := fun j => by
  refine (Shape.reshapeEquiv_cons_one h j).trans ?_
  funext a; match a with | ⟨0, _⟩ => rfl | ⟨1, _⟩ => rfl

omit [FloatOps F] in
/-- Sixteen lanes loaded off a chunk's buffer. -/
theorem load_lane (B : S128x256.Idx → F .f32) {off : Fin 2 → ℕ} {inb : ∀ a, off a + S1x16.size a ≤ S128x256.size a}
    {h : S16.numel = S1x16.numel} (r : Fin 128) (c : Fin 16) (ho : off = ![r.val, 16 * c.val]) :
    shapeCast S16 (fun x => B ((Rect.unit (s := S128x256) off S1x16.size inb).toLoadRect.idx x)) h = lane B r c := by
  subst ho
  funext i
  show B _ = B _
  rw [rs16]
  congr 1
  funext a
  match a with
  | ⟨0, _⟩ => exact Fin.ext (by simp [LoadRect.idx, Rect.unit, Rect.toLoadRect, ix2])
  | ⟨1, _⟩ => exact Fin.ext (by simp [LoadRect.idx, Rect.unit, Rect.toLoadRect, ix2])

omit [FloatOps F] in
/-- Sixteen lanes loaded off a segment's embedding. -/
theorem load_glane (G : S256.Idx → F .f32) {off : Fin 1 → ℕ} {inb : ∀ a, off a + S16.size a ≤ S256.size a}
    {h : S16.numel = S16.numel} (c : Fin 16) (ho : off = ![16 * c.val]) :
    shapeCast S16 (fun x => G ((Rect.unit (s := S256) off S16.size inb).toLoadRect.idx x)) h = glane G c := by
  subst ho
  funext i
  show G _ = G _
  rw [Shape.reshapeEquiv_self]
  congr 1
  funext a
  match a with
  | ⟨0, _⟩ => exact Fin.ext (by simp [LoadRect.idx, Rect.unit, Rect.toLoadRect, ix1])

/-- One lane group's update: the body's own spelling against `step`. -/
theorem upd (B : S128x256.Idx → F .f32) (G : S256.Idx → F .f32) {off : Fin 2 → ℕ} {inb : ∀ a, off a + S1x16.size a ≤ S128x256.size a}
    {h : S16.numel = S1x16.numel} {off' : Fin 1 → ℕ} {inb' : ∀ a, off' a + S16.size a ≤ S256.size a} {h' : S16.numel = S16.numel}
    (k : ℕ) (hk : k < 128) (c : Fin 16) (ho : off = ![k, 16 * c.val]) (ho' : off' = ![16 * c.val]) (f : Fin 16 → FVec F S16 .f32) :
    addf (f c) (mulf
        (subf (shapeCast S16 (fun x => B ((Rect.unit (s := S128x256) off S1x16.size inb).toLoadRect.idx x)) h)
          (shapeCast S16 (fun x => G ((Rect.unit (s := S256) off' S16.size inb').toLoadRect.idx x)) h'))
        (subf (shapeCast S16 (fun x => B ((Rect.unit (s := S128x256) off S1x16.size inb).toLoadRect.idx x)) h)
          (shapeCast S16 (fun x => G ((Rect.unit (s := S256) off' S16.size inb').toLoadRect.idx x)) h')))
      = step B G k f c := by
  rw [load_lane B (⟨k, hk⟩ : Fin 128) c ho, load_glane G c ho']
  unfold step
  rw [show Fin.ofNat 128 k = (⟨k, hk⟩ : Fin 128) from Fin.ext (Nat.mod_eq_of_lt hk)]

omit [FloatOps F] in
theorem tup_of {f : Fin 16 → FVec F S16 .f32} {a0 a1 a2 a3 a4 a5 a6 a7 a8 a9 a10 a11 a12 a13 a14 a15 : FVec F S16 .f32}
    (h0 : a0 = f 0) (h1 : a1 = f 1) (h2 : a2 = f 2) (h3 : a3 = f 3) (h4 : a4 = f 4) (h5 : a5 = f 5) (h6 : a6 = f 6) (h7 : a7 = f 7) (h8 : a8 = f 8) (h9 : a9 = f 9) (h10 : a10 = f 10) (h11 : a11 = f 11) (h12 : a12 = f 12) (h13 : a13 = f 13) (h14 : a14 = f 14) (h15 : a15 = f 15) :
    (a0, a1, a2, a3, a4, a5, a6, a7, a8, a9, a10, a11, a12, a13, a14, a15) = tup f := by
  subst h0 h1 h2 h3 h4 h5 h6 h7 h8 h9 h10 h11 h12 h13 h14 h15; rfl

end Cert.Proof.Run

end
-- ==== Proof.Tile.lean ====
module

public import proofs.«01_k».proof.Proof.TileValue

@[expose] public section

noncomputable section

namespace Cert.Proof.Run

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "ovV" => (Memref.whole Cert.KernelIdeal.main_arg2_scv : Memref Cert.KernelIdeal.sig Kind.scVector Space.hbm Cert.KernelIdeal.S32768x256 EltTy.f32)
local notation "rvV" => (Memref.whole Cert.KernelIdeal.main_arg4_scv : Memref Cert.KernelIdeal.sig Kind.scVector Space.hbm Cert.KernelIdeal.S32768x256 EltTy.f32)
local notation "otV" => (Memref.whole Cert.KernelIdeal.main_arg3_scv : Memref Cert.KernelIdeal.sig Kind.scVector Space.hbm Cert.KernelIdeal.S32768x256 EltTy.f32)
local notation "rtV" => (Memref.whole Cert.KernelIdeal.main_arg5_scv : Memref Cert.KernelIdeal.sig Kind.scVector Space.hbm Cert.KernelIdeal.S32768x256 EltTy.f32)
local notation "gvV" => (Memref.whole Cert.KernelIdeal.main_arg0_scv : Memref Cert.KernelIdeal.sig Kind.scVector Space.hbm Cert.KernelIdeal.S16x256 EltTy.f32)
local notation "gtV" => (Memref.whole Cert.KernelIdeal.main_arg1_scv : Memref Cert.KernelIdeal.sig Kind.scVector Space.hbm Cert.KernelIdeal.S16x256 EltTy.f32)
local notation "oV" => (Memref.whole Cert.KernelIdeal.main_v1_scv : Memref Cert.KernelIdeal.sig Kind.scVector Space.hbm Cert.KernelIdeal.S32x16 EltTy.f32)
local notation "g1" => (Memref.whole Cert.KernelIdeal.cc1_scratch0 : Memref Cert.KernelIdeal.sig Kind.scVector Space.vmem Cert.KernelIdeal.S256 EltTy.f32)
local notation "g2" => (Memref.whole Cert.KernelIdeal.cc1_scratch1 : Memref Cert.KernelIdeal.sig Kind.scVector Space.vmem Cert.KernelIdeal.S256 EltTy.f32)
local notation "b0" => (Memref.whole Cert.KernelIdeal.cc1_scratch2 : Memref Cert.KernelIdeal.sig Kind.scVector Space.vmem Cert.KernelIdeal.S128x256 EltTy.f32)
local notation "b1" => (Memref.whole Cert.KernelIdeal.cc1_scratch3 : Memref Cert.KernelIdeal.sig Kind.scVector Space.vmem Cert.KernelIdeal.S128x256 EltTy.f32)
local notation "b2" => (Memref.whole Cert.KernelIdeal.cc1_scratch4 : Memref Cert.KernelIdeal.sig Kind.scVector Space.vmem Cert.KernelIdeal.S128x256 EltTy.f32)
local notation "ob" => (Memref.whole Cert.KernelIdeal.cc1_scratch5 : Memref Cert.KernelIdeal.sig Kind.scVector Space.vmem Cert.KernelIdeal.S16 EltTy.f32)

abbrev cV (L : grid1.Coords) : Fin τ.nSC := (L 0).castLE hcore1
abbrev jV (L : grid1.Coords) : Fin τ.nSub := (L 1).castLE hsub1
/-- The tile's thread. -/
abbrev tV (d : Dev nD) (L : grid1.Coords) : Thread nD τ := V d (cV L) (jV L)

abbrev oRowK (L : grid1.Coords) : Memref sig .scVector .hbm S16 .f32 :=
  ((oV).slice (Rect.unit (s := S32x16) (k1_off131 L) S1x16.size (k1_off131_inb L)) (fun _ => rfl)).squeeze S16 squeezes_S1x16_S16

/-- The number of the tile: its index among the 32. -/
def wid (L : grid1.Coords) : Fin 32 := ⟨2 * (L 1).val + (L 0).val, by
  have h0 : (L 0).val < 2 := (L 0).isLt; have h1 : (L 1).val < 16 := (L 1).isLt; omega⟩

theorem off1_eq : ∀ L : grid1.Coords, k1_off1 L = ![12 + (wid L).val / 8, 0] := by decide +kernel
theorem off2_eq0 : ∀ L : grid1.Coords, k1_off2 L 0#32 = ![24576 + 256 * (wid L).val, 0] := by decide +kernel
theorem off2_eq1 : ∀ L : grid1.Coords, k1_off2 L 128#32 = ![24576 + 256 * (wid L).val + 128, 0] := by decide +kernel

theorem emb_off1 (L : grid1.Coords) (j : S256.Idx) : (Rect.unit (s := S16x256) (k1_off1 L) S1x256.size (k1_off1_inb L)).emb
    (Shape.reshapeEquiv squeezes_S1x256_S256.numel_eq j) = ix2 ⟨12 + (wid L).val / 8, by omega⟩ (j 0) := by
  refine (congrArg _ (rs256 _ j)).trans ?_
  funext a
  match a with
  | ⟨0, _⟩ => exact Fin.ext (by show k1_off1 L 0 + 1 * 0 = _; rw [off1_eq]; simp [ix2])
  | ⟨1, _⟩ => exact Fin.ext (by show k1_off1 L 1 + 1 * (j 0).val = _; rw [off1_eq]; simp [ix2])

theorem emb_off2 (L : grid1.Coords) (h : Fin 2) (j : S128x256.Idx) :
    (Rect.unit (s := S32768x256) (k1_off2 L (BitVec.ofNat 32 (128 * h.val))) S128x256.size (k1_off2_inb L h)).emb j
      = ix2 ⟨24576 + 256 * (wid L).val + 128 * h.val + (j 0).val, by have : (j 0).val < 128 := (j 0).isLt; omega⟩ (j 1) := by
  funext a
  match a with
  | ⟨0, _⟩ => exact Fin.ext (by rw [Rect.emb_apply]; fin_cases h <;> simp [Rect.unit, off2_eq0, off2_eq1])
  | ⟨1, _⟩ => exact Fin.ext (by rw [Rect.emb_apply]; fin_cases h <;> simp [Rect.unit, off2_eq0, off2_eq1])

theorem emb_row (L : grid1.Coords) (j : S16.Idx) : (Rect.unit (s := S32x16) (k1_off131 L) S1x16.size (k1_off131_inb L)).emb
    (Shape.reshapeEquiv squeezes_S1x16_S16.numel_eq j) = ix2 (wid L) (j 0) := by
  refine (congrArg _ (rs16 _ j)).trans ?_
  funext a
  match a with
  | ⟨0, _⟩ => exact Fin.ext (by show k1_off131 L 0 + 1 * 0 = _; rw [k1_off131_eq]; simp [ix2, wid])
  | ⟨1, _⟩ => exact Fin.ext (by show k1_off131 L 1 + 1 * (j 0).val = _; rw [k1_off131_eq]; simp [ix2, wid])

omit [FloatOps F] in
theorem ix1_eta (j : S16.Idx) : ix1 (j 0) = j := by
  funext a; match a with | ⟨0, _⟩ => rfl

/-- What a tile's copy leaves on its row of the result. -/
theorem row_contents (L : grid1.Coords) (ov rv ot rt : S32768x256.Idx → F .f32) (gv gt : S16x256.Idx → F .f32) (o : S32x16.Idx → F .f32)
    (x : S16.Idx → F .f32) (hx : x = tileRow ov rv ot rt gv gt (wid L)) :
    ∀ i ∈ (oRowK L).view.set, (oRowK L).view.writes (Elt F) o [⟨Rect.whole S16, x⟩] i = scOut ov rv ot rt gv gt i := by
  intro i hi
  obtain ⟨j, -, rfl⟩ := Finset.mem_map.mp hi
  refine (congrFun (View.read_writes_whole (Val := Elt F) (oRowK L).view o x) j).trans ?_
  subst hx
  refine Eq.trans ?_ (congrArg (scOut ov rv ot rt gv gt) (emb_row L j)).symm
  exact congrArg (tileRow ov rv ot rt gv gt (wid L)) (ix1_eta j).symm

set_option maxHeartbeats 0 in
theorem tile_run (d : Dev nD) (L : grid1.Coords) (q q' : PosShare TreeShare) (O : CellTallies nD τ sig (HIx 1)) (W : Waits sig (HIx 1))
    (ov : Buf (Elt F) (ovLoc d)) (rv : Buf (Elt F) (rvLoc d)) (ot : Buf (Elt F) (otLoc d)) (rt : Buf (Elt F) (rtLoc d))
    (gv : Buf (Elt F) (gvLoc d)) (gt : Buf (Elt F) (gtLoc d)) (o : Buf (Elt F) (oLoc d))
    (f1 : Buf (Elt F) ((tV d L).loc cc1_scratch0)) (f2 : Buf (Elt F) ((tV d L).loc cc1_scratch1)) (f3 : Buf (Elt F) ((tV d L).loc cc1_scratch2))
    (f4 : Buf (Elt F) ((tV d L).loc cc1_scratch3)) (f5 : Buf (Elt F) ((tV d L).loc cc1_scratch4)) (f6 : Buf (Elt F) ((tV d L).loc cc1_scratch5)) :
    (iprop(Transfers.MayWaits (tV d L) (default : HIx 1) O
        ∗ ((ovV).view.loc (tV d L) ↦{q} ov) ∗ ((ovV).view.loc (tV d L) ↦{q'} ov) ∗ ((rvV).view.loc (tV d L) ↦{q} rv) ∗ ((rvV).view.loc (tV d L) ↦{q'} rv) ∗ ((otV).view.loc (tV d L) ↦{q} ot) ∗ ((otV).view.loc (tV d L) ↦{q'} ot) ∗ ((rtV).view.loc (tV d L) ↦{q} rt) ∗ ((rtV).view.loc (tV d L) ↦{q'} rt)
        ∗ ((gvV).view.loc (tV d L) ↦{q} gv) ∗ ((gtV).view.loc (tV d L) ↦{q} gt)
        ∗ ((oRowK L).view.loc (tV d L) ↦[(oRowK L).view.set]{fullShare} o)
        ∗ ((g1).view.loc (tV d L) ↦{fullShare} f1) ∗ ((g2).view.loc (tV d L) ↦{fullShare} f2) ∗ ((b0).view.loc (tV d L) ↦{fullShare} f3)
        ∗ ((b1).view.loc (tV d L) ↦{fullShare} f4) ∗ ((b2).view.loc (tV d L) ↦{fullShare} f5) ∗ ((ob).view.loc (tV d L) ↦{fullShare} f6)
        ∗ semVal (tV d L, .dma cc1_scratch6.sem) 0 ∗ semVal (tV d L, .dma cc1_scratch7.sem) 0 ∗ semVal (tV d L, .dma cc1_scratch8.sem) 0
        ∗ semVal (tV d L, .dma cc1_scoped0.sem) 0 ∗ semVal (tV d L, .dma cc1_scoped1.sem) 0 ∗ semVal (tV d L, .dma cc1_scoped2.sem) 0
        ∗ owes (tV d L) O W) : sProp 𝕄)
      ⊢ wp frame (wpE (defs₀ (F := F)) 𝒱₀ (tV d L) none) Set.univ
          (cc1_sc_kernel L ovV (Memref.isWhole_whole _) rvV (Memref.isWhole_whole _) otV (Memref.isWhole_whole _) rtV (Memref.isWhole_whole _)
            gvV (Memref.isWhole_whole _) gtV (Memref.isWhole_whole _) oV (Memref.isWhole_whole _) g1 (Memref.isWhole_whole _) g2 (Memref.isWhole_whole _)
            b0 (Memref.isWhole_whole _) b1 (Memref.isWhole_whole _) b2 (Memref.isWhole_whole _) ob (Memref.isWhole_whole _)
            cc1_scratch6 cc1_scratch7 cc1_scratch8 cc1_scoped0 cc1_scoped1 cc1_scoped2)
          fun _ => iprop(((ovV).view.loc (tV d L) ↦{q} ov) ∗ ((ovV).view.loc (tV d L) ↦{q'} ov) ∗ ((rvV).view.loc (tV d L) ↦{q} rv)
            ∗ ((rvV).view.loc (tV d L) ↦{q'} rv) ∗ ((otV).view.loc (tV d L) ↦{q} ot) ∗ ((otV).view.loc (tV d L) ↦{q'} ot)
            ∗ ((rtV).view.loc (tV d L) ↦{q} rt) ∗ ((rtV).view.loc (tV d L) ↦{q'} rt)
            ∗ ((gvV).view.loc (tV d L) ↦{q} gv) ∗ ((gtV).view.loc (tV d L) ↦{q} gt)
            ∗ ((oRowK L).view.loc (tV d L) ↦[(oRowK L).view.set]{fullShare} scOut ov rv ot rt gv gt)
            ∗ (∃ f, (g1).view.loc (tV d L) ↦{fullShare} f) ∗ (∃ f, (g2).view.loc (tV d L) ↦{fullShare} f) ∗ (∃ f, (b0).view.loc (tV d L) ↦{fullShare} f)
            ∗ (∃ f, (b1).view.loc (tV d L) ↦{fullShare} f) ∗ (∃ f, (b2).view.loc (tV d L) ↦{fullShare} f) ∗ (∃ f, (ob).view.loc (tV d L) ↦{fullShare} f)
            ∗ semVal (tV d L, .dma cc1_scratch6.sem) 0 ∗ semVal (tV d L, .dma cc1_scratch7.sem) 0 ∗ semVal (tV d L, .dma cc1_scratch8.sem) 0
            ∗ semVal (tV d L, .dma cc1_scoped0.sem) 0 ∗ semVal (tV d L, .dma cc1_scoped1.sem) 0 ∗ semVal (tV d L, .dma cc1_scoped2.sem) 0
            ∗ ∃ W', ⌜∀ p ∈ W', p ∈ W ∨ p.2 = none ∨ p.2 = some (0 : Fin 1)⌝ ∗ owes (tV d L) O W') := by
  iintro ⟨#Hmw, Hov, Hov', Hrv, Hrv', Hot, Hot', Hrt, Hrt', Hgv, Hgt, Ho, H1, H2, H3, H4, H5, H6, S1, S2, S3, S4, S5, S6, HO⟩
  sl_unfold [cc1_sc_kernel]
  sl_exec (disch := exact View.amount_pos _ _ (show 0 < S128x256.numel by decide))
  have hG1 : View.write (Elt F) (g1).view f1 (tile_run.sl.dma0 d L gv) Finset.univ = grow gv (wid L) :=
    (View.write_whole_univ _ _ _).trans (funext fun j => congrArg gv (emb_off1 L j))
  have hG2 : View.write (Elt F) (g2).view f2 (tile_run.sl.dma0_1 d L gt) Finset.univ = grow gt (wid L) :=
    (View.write_whole_univ _ _ _).trans (funext fun j => congrArg gt (emb_off1 L j))
  have hB : ∀ f, View.write (Elt F) (b0).view f (tile_run.sl.dma0_2 d L ov) Finset.univ = blk ov (wid L) 0 :=
    fun _ => (View.write_whole_univ _ _ _).trans (funext fun j => congrArg ov (emb_off2 L 0 j))
  rw [hB]
  clear hB
  sl_for (fun k acc => iprop(⌜acc = tup (chunk (blk ov (wid L) 0) (grow gv (wid L)) acc0 k)⌝ ∗ (b0).view.loc (tV d L) ↦{fullShare} blk ov (wid L) 0)) $$ [H3]
  case region =>
    iintro %k %acc ⟨%Ha, H3⟩
    sl_exec
    sl_step
    isplitr
    · ipureintro
      show _ = tup (step _ _ k.val _)
      subst Ha
      generalize chunk (blk ov (wid L) 0) (grow gv (wid L)) acc0 k.val = f
      rw [← hG1]
      refine tup_of ?_ ?_ ?_ ?_ ?_ ?_ ?_ ?_ ?_ ?_ ?_ ?_ ?_ ?_ ?_ ?_ <;> (refine upd (blk ov (wid L) 0) (View.write (Elt F) (g1).view f1 (tile_run.sl.dma0 d L gv) Finset.univ) _ k.isLt _ ?_ rfl f; exact ClosedOff.eq)
    · iexact H3
  · isplitr
    · ipureintro; rfl
    · iexact H3
  iintro %acc ⟨%Ha, H3⟩
  replace Ha : acc = tup (chunk (blk ov (wid L) 0) (grow gv (wid L)) acc0 128) := Ha
  generalize hA1 : chunk (blk ov (wid L) 0) (grow gv (wid L)) acc0 128 = A1 at Ha
  subst Ha
  sl_exec (disch := exact View.amount_pos _ _ (show 0 < S128x256.numel by decide))
  have hB : ∀ f, View.write (Elt F) (b1).view f (tile_run.sl.dma0_3 d L ov) Finset.univ = blk ov (wid L) 1 :=
    fun _ => (View.write_whole_univ _ _ _).trans (funext fun j => congrArg ov (emb_off2 L 1 j))
  rw [hB]
  clear hB
  sl_for (fun k acc => iprop(⌜acc = tup (chunk (blk ov (wid L) 1) (grow gv (wid L)) A1 k)⌝ ∗ (b1).view.loc (tV d L) ↦{fullShare} blk ov (wid L) 1)) $$ [H4]
  case region =>
    iintro %k %acc ⟨%Ha, H4⟩
    sl_exec
    sl_step
    isplitr
    · ipureintro
      show _ = tup (step _ _ k.val _)
      subst Ha
      generalize chunk (blk ov (wid L) 1) (grow gv (wid L)) A1 k.val = f
      rw [← hG1]
      refine tup_of ?_ ?_ ?_ ?_ ?_ ?_ ?_ ?_ ?_ ?_ ?_ ?_ ?_ ?_ ?_ ?_ <;> (refine upd (blk ov (wid L) 1) (View.write (Elt F) (g1).view f1 (tile_run.sl.dma0 d L gv) Finset.univ) _ k.isLt _ ?_ rfl f; exact ClosedOff.eq)
    · iexact H4
  · isplitr
    · ipureintro; rfl
    · iexact H4
  iintro %acc ⟨%Ha, H4⟩
  replace Ha : acc = tup (chunk (blk ov (wid L) 1) (grow gv (wid L)) A1 128) := Ha
  generalize hA2 : chunk (blk ov (wid L) 1) (grow gv (wid L)) A1 128 = A2 at Ha
  subst Ha
  sl_exec (disch := exact View.amount_pos _ _ (show 0 < S128x256.numel by decide))
  have hB : ∀ f, View.write (Elt F) (b2).view f (tile_run.sl.dma0_4 d L rv) Finset.univ = blk rv (wid L) 0 :=
    fun _ => (View.write_whole_univ _ _ _).trans (funext fun j => congrArg rv (emb_off2 L 0 j))
  rw [hB]
  clear hB
  sl_for (fun k acc => iprop(⌜acc = tup (chunk (blk rv (wid L) 0) (grow gv (wid L)) A2 k)⌝ ∗ (b2).view.loc (tV d L) ↦{fullShare} blk rv (wid L) 0)) $$ [H5]
  case region =>
    iintro %k %acc ⟨%Ha, H5⟩
    sl_exec
    sl_step
    isplitr
    · ipureintro
      show _ = tup (step _ _ k.val _)
      subst Ha
      generalize chunk (blk rv (wid L) 0) (grow gv (wid L)) A2 k.val = f
      rw [← hG1]
      refine tup_of ?_ ?_ ?_ ?_ ?_ ?_ ?_ ?_ ?_ ?_ ?_ ?_ ?_ ?_ ?_ ?_ <;> (refine upd (blk rv (wid L) 0) (View.write (Elt F) (g1).view f1 (tile_run.sl.dma0 d L gv) Finset.univ) _ k.isLt _ ?_ rfl f; exact ClosedOff.eq)
    · iexact H5
  · isplitr
    · ipureintro; rfl
    · iexact H5
  iintro %acc ⟨%Ha, H5⟩
  replace Ha : acc = tup (chunk (blk rv (wid L) 0) (grow gv (wid L)) A2 128) := Ha
  generalize hA3 : chunk (blk rv (wid L) 0) (grow gv (wid L)) A2 128 = A3 at Ha
  subst Ha
  sl_exec (disch := exact View.amount_pos _ _ (show 0 < S128x256.numel by decide))
  have hB : ∀ f, View.write (Elt F) (b0).view f (tile_run.sl.dma0_5 d L rv) Finset.univ = blk rv (wid L) 1 :=
    fun _ => (View.write_whole_univ _ _ _).trans (funext fun j => congrArg rv (emb_off2 L 1 j))
  rw [hB]
  clear hB
  sl_for (fun k acc => iprop(⌜acc = tup (chunk (blk rv (wid L) 1) (grow gv (wid L)) A3 k)⌝ ∗ (b0).view.loc (tV d L) ↦{fullShare} blk rv (wid L) 1)) $$ [H3]
  case region =>
    iintro %k %acc ⟨%Ha, H3⟩
    sl_exec
    sl_step
    isplitr
    · ipureintro
      show _ = tup (step _ _ k.val _)
      subst Ha
      generalize chunk (blk rv (wid L) 1) (grow gv (wid L)) A3 k.val = f
      rw [← hG1]
      refine tup_of ?_ ?_ ?_ ?_ ?_ ?_ ?_ ?_ ?_ ?_ ?_ ?_ ?_ ?_ ?_ ?_ <;> (refine upd (blk rv (wid L) 1) (View.write (Elt F) (g1).view f1 (tile_run.sl.dma0 d L gv) Finset.univ) _ k.isLt _ ?_ rfl f; exact ClosedOff.eq)
    · iexact H3
  · isplitr
    · ipureintro; rfl
    · iexact H3
  iintro %acc ⟨%Ha, H3⟩
  replace Ha : acc = tup (chunk (blk rv (wid L) 1) (grow gv (wid L)) A3 128) := Ha
  generalize hA4 : chunk (blk rv (wid L) 1) (grow gv (wid L)) A3 128 = A4 at Ha
  subst Ha
  sl_exec (disch := exact View.amount_pos _ _ (show 0 < S128x256.numel by decide))
  have hB : ∀ f, View.write (Elt F) (b1).view f (tile_run.sl.dma0_6 d L ot) Finset.univ = blk ot (wid L) 0 :=
    fun _ => (View.write_whole_univ _ _ _).trans (funext fun j => congrArg ot (emb_off2 L 0 j))
  rw [hB]
  clear hB
  sl_for (fun k acc => iprop(⌜acc = tup (chunk (blk ot (wid L) 0) (grow gt (wid L)) A4 k)⌝ ∗ (b1).view.loc (tV d L) ↦{fullShare} blk ot (wid L) 0)) $$ [H4]
  case region =>
    iintro %k %acc ⟨%Ha, H4⟩
    sl_exec
    sl_step
    isplitr
    · ipureintro
      show _ = tup (step _ _ k.val _)
      subst Ha
      generalize chunk (blk ot (wid L) 0) (grow gt (wid L)) A4 k.val = f
      rw [← hG2]
      refine tup_of ?_ ?_ ?_ ?_ ?_ ?_ ?_ ?_ ?_ ?_ ?_ ?_ ?_ ?_ ?_ ?_ <;> (refine upd (blk ot (wid L) 0) (View.write (Elt F) (g2).view f2 (tile_run.sl.dma0_1 d L gt) Finset.univ) _ k.isLt _ ?_ rfl f; exact ClosedOff.eq)
    · iexact H4
  · isplitr
    · ipureintro; rfl
    · iexact H4
  iintro %acc ⟨%Ha, H4⟩
  replace Ha : acc = tup (chunk (blk ot (wid L) 0) (grow gt (wid L)) A4 128) := Ha
  generalize hA5 : chunk (blk ot (wid L) 0) (grow gt (wid L)) A4 128 = A5 at Ha
  subst Ha
  sl_exec (disch := exact View.amount_pos _ _ (show 0 < S128x256.numel by decide))
  have hB : ∀ f, View.write (Elt F) (b2).view f (tile_run.sl.dma0_7 d L ot) Finset.univ = blk ot (wid L) 1 :=
    fun _ => (View.write_whole_univ _ _ _).trans (funext fun j => congrArg ot (emb_off2 L 1 j))
  rw [hB]
  clear hB
  sl_for (fun k acc => iprop(⌜acc = tup (chunk (blk ot (wid L) 1) (grow gt (wid L)) A5 k)⌝ ∗ (b2).view.loc (tV d L) ↦{fullShare} blk ot (wid L) 1)) $$ [H5]
  case region =>
    iintro %k %acc ⟨%Ha, H5⟩
    sl_exec
    sl_step
    isplitr
    · ipureintro
      show _ = tup (step _ _ k.val _)
      subst Ha
      generalize chunk (blk ot (wid L) 1) (grow gt (wid L)) A5 k.val = f
      rw [← hG2]
      refine tup_of ?_ ?_ ?_ ?_ ?_ ?_ ?_ ?_ ?_ ?_ ?_ ?_ ?_ ?_ ?_ ?_ <;> (refine upd (blk ot (wid L) 1) (View.write (Elt F) (g2).view f2 (tile_run.sl.dma0_1 d L gt) Finset.univ) _ k.isLt _ ?_ rfl f; exact ClosedOff.eq)
    · iexact H5
  · isplitr
    · ipureintro; rfl
    · iexact H5
  iintro %acc ⟨%Ha, H5⟩
  replace Ha : acc = tup (chunk (blk ot (wid L) 1) (grow gt (wid L)) A5 128) := Ha
  generalize hA6 : chunk (blk ot (wid L) 1) (grow gt (wid L)) A5 128 = A6 at Ha
  subst Ha
  sl_exec (disch := exact View.amount_pos _ _ (show 0 < S128x256.numel by decide))
  have hB : ∀ f, View.write (Elt F) (b0).view f (tile_run.sl.dma0_8 d L rt) Finset.univ = blk rt (wid L) 0 :=
    fun _ => (View.write_whole_univ _ _ _).trans (funext fun j => congrArg rt (emb_off2 L 0 j))
  rw [hB]
  clear hB
  sl_for (fun k acc => iprop(⌜acc = tup (chunk (blk rt (wid L) 0) (grow gt (wid L)) A6 k)⌝ ∗ (b0).view.loc (tV d L) ↦{fullShare} blk rt (wid L) 0)) $$ [H3]
  case region =>
    iintro %k %acc ⟨%Ha, H3⟩
    sl_exec
    sl_step
    isplitr
    · ipureintro
      show _ = tup (step _ _ k.val _)
      subst Ha
      generalize chunk (blk rt (wid L) 0) (grow gt (wid L)) A6 k.val = f
      rw [← hG2]
      refine tup_of ?_ ?_ ?_ ?_ ?_ ?_ ?_ ?_ ?_ ?_ ?_ ?_ ?_ ?_ ?_ ?_ <;> (refine upd (blk rt (wid L) 0) (View.write (Elt F) (g2).view f2 (tile_run.sl.dma0_1 d L gt) Finset.univ) _ k.isLt _ ?_ rfl f; exact ClosedOff.eq)
    · iexact H3
  · isplitr
    · ipureintro; rfl
    · iexact H3
  iintro %acc ⟨%Ha, H3⟩
  replace Ha : acc = tup (chunk (blk rt (wid L) 0) (grow gt (wid L)) A6 128) := Ha
  generalize hA7 : chunk (blk rt (wid L) 0) (grow gt (wid L)) A6 128 = A7 at Ha
  subst Ha
  sl_exec (disch := exact View.amount_pos _ _ (show 0 < S128x256.numel by decide))
  have hB : ∀ f, View.write (Elt F) (b1).view f (tile_run.sl.dma0_9 d L rt) Finset.univ = blk rt (wid L) 1 :=
    fun _ => (View.write_whole_univ _ _ _).trans (funext fun j => congrArg rt (emb_off2 L 1 j))
  rw [hB]
  clear hB
  sl_for (fun k acc => iprop(⌜acc = tup (chunk (blk rt (wid L) 1) (grow gt (wid L)) A7 k)⌝ ∗ (b1).view.loc (tV d L) ↦{fullShare} blk rt (wid L) 1)) $$ [H4]
  case region =>
    iintro %k %acc ⟨%Ha, H4⟩
    sl_exec
    sl_step
    isplitr
    · ipureintro
      show _ = tup (step _ _ k.val _)
      subst Ha
      generalize chunk (blk rt (wid L) 1) (grow gt (wid L)) A7 k.val = f
      rw [← hG2]
      refine tup_of ?_ ?_ ?_ ?_ ?_ ?_ ?_ ?_ ?_ ?_ ?_ ?_ ?_ ?_ ?_ ?_ <;> (refine upd (blk rt (wid L) 1) (View.write (Elt F) (g2).view f2 (tile_run.sl.dma0_1 d L gt) Finset.univ) _ k.isLt _ ?_ rfl f; exact ClosedOff.eq)
    · iexact H4
  · isplitr
    · ipureintro; rfl
    · iexact H4
  iintro %acc ⟨%Ha, H4⟩
  replace Ha : acc = tup (chunk (blk rt (wid L) 1) (grow gt (wid L)) A7 128) := Ha
  generalize hA8 : chunk (blk rt (wid L) 1) (grow gt (wid L)) A7 128 = A8 at Ha
  subst Ha
  sl_exec (disch := exact View.amount_pos _ _ (show 0 < S128x256.numel by decide))
  have hx : tile_run.sl.dma2 d L f6 A8 = tileRow ov rv ot rt gv gt (wid L) :=
    (View.read_writes_full _ _ _ _ _).trans (by
      subst hA8 hA7 hA6 hA5 hA4 hA3 hA2 hA1
      unfold tileRow accOf
      generalize chunk (blk rt (wid L) 1) (grow gt (wid L)) (chunk (blk rt (wid L) 0) (grow gt (wid L)) _ 128) 128 = A
      exact funext fun i => congrArg (total A) (Shape.reshapeEquiv_self _ i))
  ihave Ho := (Entails.of_eq (pointsTo_congr (row_contents L ov rv ot rt gv gt o _ hx))) $$ Ho
  sl_step
  isplitl [Hov]; · iexact Hov
  isplitl [Hov']; · iexact Hov'
  isplitl [Hrv]; · iexact Hrv
  isplitl [Hrv']; · iexact Hrv'
  isplitl [Hot]; · iexact Hot
  isplitl [Hot']; · iexact Hot'
  isplitl [Hrt]; · iexact Hrt
  isplitl [Hrt']; · iexact Hrt'
  isplitl [Hgv]; · iexact Hgv
  isplitl [Hgt]; · iexact Hgt
  isplitl [Ho]; · iexact Ho
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [S1]; · iexact S1
  isplitl [S2]; · iexact S2
  isplitl [S3]; · iexact S3
  isplitl [S4]; · iexact S4
  isplitl [S5]; · iexact S5
  isplitl [S6]; · iexact S6
  iexists _; isplitr
  swap; · iexact HO
  ipureintro; intro p _
  rcases p.2 with _ | q
  · exact .inr (.inl rfl)
  · exact .inr (.inr (congrArg some (Subsingleton.elim q 0)))

end Cert.Proof.Run

end
-- ==== Proof.TileObl.lean ====
/-
  The SparseCore call seen from its launch: what it hands each core and each tile (read shares of the six inputs, and the
  tile's row of the result), what comes back, and that a tile's task, from its thread's own state, keeps to that.
-/
module

public import proofs.«01_k».proof.Proof.Tile

@[expose] public section

noncomputable section

namespace Cert.Proof.Run

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "ovV" => (Memref.whole Cert.KernelIdeal.main_arg2_scv : Memref Cert.KernelIdeal.sig Kind.scVector Space.hbm Cert.KernelIdeal.S32768x256 EltTy.f32)
local notation "rvV" => (Memref.whole Cert.KernelIdeal.main_arg4_scv : Memref Cert.KernelIdeal.sig Kind.scVector Space.hbm Cert.KernelIdeal.S32768x256 EltTy.f32)
local notation "otV" => (Memref.whole Cert.KernelIdeal.main_arg3_scv : Memref Cert.KernelIdeal.sig Kind.scVector Space.hbm Cert.KernelIdeal.S32768x256 EltTy.f32)
local notation "rtV" => (Memref.whole Cert.KernelIdeal.main_arg5_scv : Memref Cert.KernelIdeal.sig Kind.scVector Space.hbm Cert.KernelIdeal.S32768x256 EltTy.f32)
local notation "gvV" => (Memref.whole Cert.KernelIdeal.main_arg0_scv : Memref Cert.KernelIdeal.sig Kind.scVector Space.hbm Cert.KernelIdeal.S16x256 EltTy.f32)
local notation "gtV" => (Memref.whole Cert.KernelIdeal.main_arg1_scv : Memref Cert.KernelIdeal.sig Kind.scVector Space.hbm Cert.KernelIdeal.S16x256 EltTy.f32)
local notation "oV" => (Memref.whole Cert.KernelIdeal.main_v1_scv : Memref Cert.KernelIdeal.sig Kind.scVector Space.hbm Cert.KernelIdeal.S32x16 EltTy.f32)
local notation "g1" => (Memref.whole Cert.KernelIdeal.cc1_scratch0 : Memref Cert.KernelIdeal.sig Kind.scVector Space.vmem Cert.KernelIdeal.S256 EltTy.f32)
local notation "g2" => (Memref.whole Cert.KernelIdeal.cc1_scratch1 : Memref Cert.KernelIdeal.sig Kind.scVector Space.vmem Cert.KernelIdeal.S256 EltTy.f32)
local notation "b0" => (Memref.whole Cert.KernelIdeal.cc1_scratch2 : Memref Cert.KernelIdeal.sig Kind.scVector Space.vmem Cert.KernelIdeal.S128x256 EltTy.f32)
local notation "b1" => (Memref.whole Cert.KernelIdeal.cc1_scratch3 : Memref Cert.KernelIdeal.sig Kind.scVector Space.vmem Cert.KernelIdeal.S128x256 EltTy.f32)
local notation "b2" => (Memref.whole Cert.KernelIdeal.cc1_scratch4 : Memref Cert.KernelIdeal.sig Kind.scVector Space.vmem Cert.KernelIdeal.S128x256 EltTy.f32)
local notation "ob" => (Memref.whole Cert.KernelIdeal.cc1_scratch5 : Memref Cert.KernelIdeal.sig Kind.scVector Space.vmem Cert.KernelIdeal.S16 EltTy.f32)

variable (m : (ℓ : Loc nD τ sig) → Buf (Elt F) ℓ)

/-! ## What goes out and comes back -/

/-- The six inputs on device `d`, at share `q`. -/
def ins (d : Dev nD) (q : PosShare TreeShare) : sProp 𝕄 :=
  iprop((ovLoc d ↦{q} m (ovLoc d)) ∗ (rvLoc d ↦{q} m (rvLoc d)) ∗ (otLoc d ↦{q} m (otLoc d)) ∗ (rtLoc d ↦{q} m (rtLoc d))
    ∗ (gvLoc d ↦{q} m (gvLoc d)) ∗ (gtLoc d ↦{q} m (gtLoc d)))

/-- Row `w` of the result. -/
def rowSet (w : Fin 32) : Finset S32x16.Idx := Finset.univ.filter fun j => (j 0).val = w.val

abbrev rowPts (d : Dev nD) (w : Fin 32) (f : Buf (Elt F) (oLoc d)) : sProp 𝕄 := oLoc d ↦[rowSet w]{fullShare} f

/-- The result of the call on device `d`. -/
abbrev scRes (d : Dev nD) : Buf (Elt F) (oLoc d) :=
  scOut (F := F) (m (ovLoc d)) (m (rvLoc d)) (m (otLoc d)) (m (rtLoc d)) (m (gvLoc d)) (m (gtLoc d))

/-- The number of tile `i` of core `c`. -/
def tileNo (c i : ℕ) : Fin 32 := ⟨(2 * i + c) % 32, Nat.mod_lt _ (by decide)⟩

abbrev coreShare {q : Fin 1} (c : Fin ((K (F := F)).nCore q)) : PosShare TreeShare := Transfers.dealOf fullShare Finset.univ c
abbrev tileShare {q : Fin 1} (c : Fin ((K (F := F)).nCore q)) (i : Fin ((K (F := F)).nSub q)) : PosShare TreeShare :=
  Transfers.dealOf (coreShare c) Finset.univ i

/-- What the call hands out and gets back: to a core its share of the inputs and its tiles' rows, to a tile its share and its row. -/
def P : (K (F := F)).Pay (nD := nD) (Val := Elt F) (Name := ℕ) (U := UU) where
  st := fun q d c => iprop(ins m d (coreShare c) ∗ bigSep Finset.univ fun i : Fin ((K (F := F)).nSub q) => rowPts d (tileNo c.val i.val) (m (oLoc d)))
  dn := fun q d c => iprop(ins m d (coreShare c) ∗ bigSep Finset.univ fun i : Fin ((K (F := F)).nSub q) => rowPts d (tileNo c.val i.val) (scRes m d))
  go := fun _ d c i => iprop(ins m d (tileShare c i) ∗ rowPts d (tileNo c.val i.val) (m (oLoc d)))
  td := fun _ d c i => iprop(ins m d (tileShare c i) ∗ rowPts d (tileNo c.val i.val) (scRes m d))
  x := fun _ _ => iprop(emp)

instance ins_storable (d : Dev nD) (q : PosShare TreeShare) : BI.Storable (upEmb : UEmb _ 𝕄) (ins m d q) := by unfold ins; infer_instance

instance P_storable : (P (F := F) m).IsStorable where
  st _ d c := by unfold P; infer_instance
  dn _ d c := by unfold P; infer_instance
  go _ d c i := by unfold P; infer_instance
  td _ d c i := by unfold P; infer_instance

omit [FloatOps F] in
/-- The inputs dealt among the members of a set. -/
theorem ins_deal (d : Dev nD) (q : PosShare TreeShare) {ι : Type} [LinearOrder ι] (s : Finset ι) (hs : s.Nonempty) :
    (ins m d q : sProp 𝕄) = bigSep s fun i => ins m d (Transfers.dealOf q s i) := by
  unfold ins
  simp only [bigSep_sep']
  rw [← Transfers.pointsTo_deal s hs q, ← Transfers.pointsTo_deal s hs q, ← Transfers.pointsTo_deal s hs q, ← Transfers.pointsTo_deal s hs q,
    ← Transfers.pointsTo_deal s hs q, ← Transfers.pointsTo_deal s hs q]

theorem vecSplit : (K (F := F)).VecSplit' (P m) 0 := by
  intro d c
  have hne : (Finset.univ : Finset (Fin ((K (F := F)).nSub 0))).Nonempty := ⟨(0 : Fin 16), Finset.mem_univ _⟩
  have hst : (P m).st 0 d c = bigSep Finset.univ fun i : Fin ((K (F := F)).nSub 0) => (P m).go 0 d c i := by
    show iprop(ins m d _ ∗ _) = bigSep _ fun i => iprop(_ ∗ _)
    rw [bigSep_sep', ← ins_deal m d (coreShare c) Finset.univ hne]
  have hdn : (P m).dn 0 d c = bigSep Finset.univ fun i : Fin ((K (F := F)).nSub 0) => (P m).td 0 d c i := by
    show iprop(ins m d _ ∗ _) = bigSep _ fun i => iprop(_ ∗ _)
    rw [bigSep_sep', ← ins_deal m d (coreShare c) Finset.univ hne]
  rw [hst, hdn]
  iintro H; imodintro
  isplitl [H]; · iexact H
  iintro H; iexact H

/-! ## The task -/

omit [FloatOps F] in
theorem set_oRowK (L : grid1.Coords) : (oRowK L).view.set = rowSet (wid L) := by
  ext i
  constructor
  · intro hi
    obtain ⟨j, -, rfl⟩ := Finset.mem_map.mp hi
    have e : (oRowK L).view.emb j = ix2 (wid L) (j 0) := emb_row L j
    rw [e]
    exact Finset.mem_filter.mpr ⟨Finset.mem_univ _, rfl⟩
  · intro hi
    refine Finset.mem_map.mpr ⟨ix1 (i 1), Finset.mem_univ _, ?_⟩
    have e : (oRowK L).view.emb (ix1 (i 1)) = ix2 (wid L) (i 1) := emb_row L (ix1 (i 1))
    rw [e]
    funext a
    match a with
    | ⟨0, _⟩ => exact Fin.ext (Finset.mem_filter.mp hi).2.symm
    | ⟨1, _⟩ => rfl

omit [FloatOps F] in
/-- A separating conjunction with the image of a set taken out. -/
theorem bigSep_split_map {I J : Type} [DecidableEq J] (T : Finset J) (S : Finset I) (e : I ↪ J) (h : ∀ i ∈ S, e i ∈ T) (Φ : J → sProp 𝕄) :
    bigSep T Φ = iprop(bigSep S (fun i => Φ (e i)) ∗ bigSep (T \ S.map e) Φ) := by
  have hs : S.map e ⊆ T := fun j hj => by
    obtain ⟨i, hi, rfl⟩ := Finset.mem_map.mp hj; exact h i hi
  rw [← bigSep_map e]
  conv_lhs => rw [← Finset.union_sdiff_of_subset hs, bigSep_union Finset.disjoint_sdiff]
  rfl

/-- The semaphores the body names. -/
def sems : Finset (SemLoc sig) :=
  {.dma cc1_scratch6.sem, .dma cc1_scratch7.sem, .dma cc1_scratch8.sem, .dma cc1_scoped0.sem, .dma cc1_scoped1.sem, .dma cc1_scoped2.sem}

def semAt (d : Dev nD) (L : grid1.Coords) : SemLoc sig ↪ GSem nD τ sig := ⟨fun s => (tV d L, s), fun _ _ h => (Prod.mk.inj h).2⟩

omit [FloatOps F] in
theorem ownSems0_V (d : Dev nD) (L : grid1.Coords) : (ownSems0 (tV d L) : sProp 𝕄)
    = iprop((semVal (tV d L, .dma cc1_scratch6.sem) 0 ∗ semVal (tV d L, .dma cc1_scratch7.sem) 0 ∗ semVal (tV d L, .dma cc1_scratch8.sem) 0
        ∗ semVal (tV d L, .dma cc1_scoped0.sem) 0 ∗ semVal (tV d L, .dma cc1_scoped1.sem) 0 ∗ semVal (tV d L, .dma cc1_scoped2.sem) 0)
      ∗ bigSep (ownCells (tV d L) \ sems.map (semAt d L)) fun g => semVal g 0) := by
  unfold SparseCore.Cfg.ownSems0
  rw [bigSep_split_map (ownCells (tV d L)) sems (semAt d L) (fun s hs => mem_ownCells.mpr ⟨rfl, by
    have : ∀ s ∈ sems, s.isScoped .scVector = true := by decide
    exact this s hs⟩)]
  congr 1
  unfold sems
  rw [SparseCore.bigSep_insert' (by decide), SparseCore.bigSep_insert' (by decide), SparseCore.bigSep_insert' (by decide), SparseCore.bigSep_insert' (by decide),
    SparseCore.bigSep_insert' (by decide), bigSep_singleton]
  rfl

/-- The buffers the body names. -/
def bufs : Finset (Ref sig .scVector) := {cc1_scratch0, cc1_scratch1, cc1_scratch2, cc1_scratch3, cc1_scratch4, cc1_scratch5}

def bufAt (L : grid1.Coords) : Ref sig .scVector ↪ DevRef τ sig := ⟨(Proc.scVector (cV L) (jV L)).devRef, Proc.devRef_injective _⟩

omit [FloatOps F] in
theorem ownBufs_V (d : Dev nD) (L : grid1.Coords) : (ownBufs (tV d L) : sProp 𝕄)
    = iprop(((∃ f, (tV d L).loc cc1_scratch0 ↦{fullShare} f) ∗ (∃ f, (tV d L).loc cc1_scratch1 ↦{fullShare} f)
        ∗ (∃ f, (tV d L).loc cc1_scratch2 ↦{fullShare} f) ∗ (∃ f, (tV d L).loc cc1_scratch3 ↦{fullShare} f)
        ∗ (∃ f, (tV d L).loc cc1_scratch4 ↦{fullShare} f) ∗ (∃ f, (tV d L).loc cc1_scratch5 ↦{fullShare} f))
      ∗ bigSep (ownRefs (τ := τ) (.scVector (cV L) (jV L)) \ bufs.map (bufAt L)) fun b => iprop(∃ f, ((d, b) : Loc nD τ sig) ↦{fullShare} f)) := by
  unfold SparseCore.Cfg.ownBufs
  refine (bigSep_split_map (ownRefs (τ := τ) (.scVector (cV L) (jV L))) bufs (bufAt L) (fun b hb => ?_) _).trans ?_
  · refine SparseCore.Cfg.mem_ownRefs_of_owner (p := Proc.scVector (cV L) (jV L)) ?_
    unfold bufs at hb
    simp only [Finset.mem_insert, Finset.mem_singleton] at hb
    rcases hb with rfl | rfl | rfl | rfl | rfl | rfl <;> rfl
  congr 1
  unfold bufs
  rw [SparseCore.bigSep_insert' (by decide), SparseCore.bigSep_insert' (by decide), SparseCore.bigSep_insert' (by decide), SparseCore.bigSep_insert' (by decide),
    SparseCore.bigSep_insert' (by decide), bigSep_singleton]
  rfl

omit [FloatOps F] in
/-- The inputs at a share are the inputs at its two halves. -/
theorem ins_halves (d : Dev nD) (q : PosShare TreeShare) : (ins m d q : sProp 𝕄) = iprop(ins m d q.left ∗ ins m d q.right) := by
  have h (ℓ : Loc nD τ sig) (f : Buf (Elt F) ℓ) : (ℓ ↦{q} f : sProp 𝕄) = iprop((ℓ ↦{q.left} f) ∗ ℓ ↦{q.right} f) :=
    BI.Entails.antisymm (pointsTo_share (PosShare.mem_left_op_right _)).1 (pointsTo_share (PosShare.mem_left_op_right _)).2
  refine BI.Entails.antisymm (show (ins m d q : sProp 𝕄) ⊢ iprop(ins m d q.left ∗ ins m d q.right) from ?_)
    (show (iprop(ins m d q.left ∗ ins m d q.right) : sProp 𝕄) ⊢ ins m d q from ?_)
  · unfold ins; rw [h, h, h, h, h, h]
    iintro ⟨⟨A, A'⟩, ⟨B, B'⟩, ⟨C, C'⟩, ⟨E, E'⟩, ⟨G, G'⟩, H, H'⟩
    isplitl [A B C E G H]
    · isplitl [A]; · iexact A
      isplitl [B]; · iexact B
      isplitl [C]; · iexact C
      isplitl [E]; · iexact E
      isplitl [G]; · iexact G
      iexact H
    isplitl [A']; · iexact A'
    isplitl [B']; · iexact B'
    isplitl [C']; · iexact C'
    isplitl [E']; · iexact E'
    isplitl [G']; · iexact G'
    iexact H'
  · conv_rhs => unfold ins; rw [h, h, h, h, h, h]
    unfold ins
    iintro ⟨⟨A, B, C, E, G, H⟩, A', B', C', E', G', H'⟩
    isplitl [A A']; · isplitl [A]; · iexact A
                      iexact A'
    isplitl [B B']; · isplitl [B]; · iexact B
                      iexact B'
    isplitl [C C']; · isplitl [C]; · iexact C
                      iexact C'
    isplitl [E E']; · isplitl [E]; · iexact E
                      iexact E'
    isplitl [G G']; · isplitl [G]; · iexact G
                      iexact G'
    isplitl [H]; · iexact H
    iexact H'

theorem tile_body (d : Dev nD) (L : grid1.Coords) (q : PosShare TreeShare) (w : Fin 32) (hw : w = wid L) (hF : (K (F := F)).Facts)
    (O : CellTallies nD τ sig (HIx 1)) (W : Waits sig (HIx 1)) (hO : ∀ g, O g none = 0) :
    iprop(levAts (K (F := F)).L (K (F := F)).lev ∗ emp ∗ (ins m d q ∗ rowPts d w (m (oLoc d)))
        ∗ scopedBufs (tV d L) ∗ scopedSems0 (tV d L) ∗ owes (tV d L) O W)
      ⊢ wp frame (wpE (defs₀ (F := F)) 𝒱₀ (tV d L) none) Set.univ
          (cc1_sc_kernel L ovV (Memref.isWhole_whole _) rvV (Memref.isWhole_whole _) otV (Memref.isWhole_whole _) rtV (Memref.isWhole_whole _)
            gvV (Memref.isWhole_whole _) gtV (Memref.isWhole_whole _) oV (Memref.isWhole_whole _) g1 (Memref.isWhole_whole _) g2 (Memref.isWhole_whole _)
            b0 (Memref.isWhole_whole _) b1 (Memref.isWhole_whole _) b2 (Memref.isWhole_whole _) ob (Memref.isWhole_whole _)
            cc1_scratch6 cc1_scratch7 cc1_scratch8 cc1_scoped0 cc1_scoped1 cc1_scoped2)
          fun _ => iprop((ins m d q ∗ rowPts d w (scRes m d)) ∗ scopedBufs (tV d L) ∗ scopedSems0 (tV d L)
            ∗ ∃ W', ⌜∀ p ∈ W', p ∈ W ∨ p.2 = none ∨ p.2 = some (0 : Fin 1)⌝ ∗ owes (tV d L) O W') := by
  subst hw
  rw [(K (F := F)).scopedBufs_V hF d (cV L) (jV L), SparseCore.Cfg.scopedSems0_V (Val := Elt F) d (cV L) (jV L), ownSems0_V, ownBufs_V, ins_halves m d q]
  unfold rowPts
  rw [← set_oRowK]
  have hmw : (levAts (K (F := F)).L (K (F := F)).lev : sProp 𝕄) ⊢ Transfers.MayWaits (tV d L) (default : HIx 1) O := (K (F := F)).mayWaits_none (thr := tV d L) hO
  generalize hQ : cc1_sc_kernel (F := F) L ovV (Memref.isWhole_whole _) rvV (Memref.isWhole_whole _) otV (Memref.isWhole_whole _) rtV (Memref.isWhole_whole _)
            gvV (Memref.isWhole_whole _) gtV (Memref.isWhole_whole _) oV (Memref.isWhole_whole _) g1 (Memref.isWhole_whole _) g2 (Memref.isWhole_whole _)
            b0 (Memref.isWhole_whole _) b1 (Memref.isWhole_whole _) b2 (Memref.isWhole_whole _) ob (Memref.isWhole_whole _)
            cc1_scratch6 cc1_scratch7 cc1_scratch8 cc1_scoped0 cc1_scoped1 cc1_scoped2 = prog
  unfold ins
  iintro ⟨#Hlv, -, ⟨⟨⟨A, B, C, E, G, H⟩, A', B', C', E', G', H'⟩, Ho⟩, ⟨⟨⟨%f1, H1⟩, ⟨%f2, H2⟩, ⟨%f3, H3⟩, ⟨%f4, H4⟩, ⟨%f5, H5⟩, %f6, H6⟩, Hbufs⟩,
    ⟨⟨S1, S2, S3, S4, S5, S6⟩, Hsems⟩, HO⟩
  ihave #Hmw := hmw $$ Hlv
  have hrun := tile_run (F := F) d L q.left q.right O W (m (ovLoc d)) (m (rvLoc d)) (m (otLoc d)) (m (rtLoc d)) (m (gvLoc d)) (m (gtLoc d)) (m (oLoc d)) f1 f2 f3 f4 f5 f6
  rw [hQ] at hrun
  iapply (wp_wand_r frame (wpE (defs₀ (F := F)) 𝒱₀ (tV d L) none) Set.univ)
  isplitl [A A' B B' C C' E E' G H Ho H1 H2 H3 H4 H5 H6 S1 S2 S3 S4 S5 S6 HO]
  · iapply hrun
    isplitr; · iexact Hmw
    isplitl [A]; · iexact A
    isplitl [A']; · iexact A'
    isplitl [B]; · iexact B
    isplitl [B']; · iexact B'
    isplitl [C]; · iexact C
    isplitl [C']; · iexact C'
    isplitl [E]; · iexact E
    isplitl [E']; · iexact E'
    isplitl [G]; · iexact G
    isplitl [H]; · iexact H
    isplitl [Ho]; · iexact Ho
    isplitl [H1]; · iexact H1
    isplitl [H2]; · iexact H2
    isplitl [H3]; · iexact H3
    isplitl [H4]; · iexact H4
    isplitl [H5]; · iexact H5
    isplitl [H6]; · iexact H6
    isplitl [S1]; · iexact S1
    isplitl [S2]; · iexact S2
    isplitl [S3]; · iexact S3
    isplitl [S4]; · iexact S4
    isplitl [S5]; · iexact S5
    isplitl [S6]; · iexact S6
    iexact HO
  iintro %a ⟨A, A', B, B', C, C', E, E', G, H, Ho, H1, H2, H3, H4, H5, H6, S1, S2, S3, S4, S5, S6, HW⟩
  isplitl [A A' B B' C C' E E' G H G' H' Ho]
  · isplitr [Ho]
    · isplitl [A B C E G H]
      · isplitl [A]; · iexact A
        isplitl [B]; · iexact B
        isplitl [C]; · iexact C
        isplitl [E]; · iexact E
        isplitl [G]; · iexact G
        iexact H
      isplitl [A']; · iexact A'
      isplitl [B']; · iexact B'
      isplitl [C']; · iexact C'
      isplitl [E']; · iexact E'
      isplitl [G']; · iexact G'
      iexact H'
    iexact Ho
  isplitl [H1 H2 H3 H4 H5 H6 Hbufs]
  · isplitr [Hbufs]
    · isplitl [H1]; · iexact H1
      isplitl [H2]; · iexact H2
      isplitl [H3]; · iexact H3
      isplitl [H4]; · iexact H4
      isplitl [H5]; · iexact H5
      iexact H6
    iexact Hbufs
  isplitr [HW]
  · isplitr [Hsems]
    · isplitl [S1]; · iexact S1
      isplitl [S2]; · iexact S2
      isplitl [S3]; · iexact S3
      isplitl [S4]; · iexact S4
      isplitl [S5]; · iexact S5
      iexact S6
    iexact Hsems
  iexact HW

/-! ## The launch's obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) : defs₀ (F := F) (.scVector c s) 1 ()
    = SparseCore.onTile hcore1 hsub1 (fun c s => cc1_sc_kernel (F := F) (coordsV c s)
        ovV (Memref.isWhole_whole _) rvV (Memref.isWhole_whole _) otV (Memref.isWhole_whole _) rtV (Memref.isWhole_whole _)
        gvV (Memref.isWhole_whole _) gtV (Memref.isWhole_whole _) oV (Memref.isWhole_whole _) g1 (Memref.isWhole_whole _) g2 (Memref.isWhole_whole _)
        b0 (Memref.isWhole_whole _) b1 (Memref.isWhole_whole _) b2 (Memref.isWhole_whole _) ob (Memref.isWhole_whole _)
        cc1_scratch6 cc1_scratch7 cc1_scratch8 cc1_scoped0 cc1_scoped1 cc1_scoped2) ⟨⟩ c s := rfl

theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (.scVector ((K (F := F)).core 0 c) ((K (F := F)).sub 0 i)) 1 ())) _
  refine BI.Entails.trans ?_ (Pipeline.wp_liftProg D (Pipeline.defs_kernel pcfgs defs₀) 𝒱₀ _ Set.univ none _ _)
  rw [defs₀_vector]
  simp only [SparseCore.onTile, hci, and_self, ↓reduceDIte]
  have hw : tileNo c.val i.val = wid (coordsV ⟨_, hci.1⟩ ⟨_, hci.2⟩) := by
    refine Fin.ext ?_
    have h1 : c.val < 2 := c.isLt
    have h2 : i.val < 16 := i.isLt
    show (2 * i.val + c.val) % 32 = 2 * i.val + c.val
    omega
  have hb := tile_body m d (coordsV ⟨_, hci.1⟩ ⟨_, hci.2⟩) (tileShare c i) (tileNo c.val i.val) hw hF O W hO
  exact hb

end Cert.Proof.Run

end
-- ==== Proof.Region.lean ====
/-
  The TensorCore call: its body run at a grid point (the accumulator's step), the data of its pipeline, and its region.
-/
module

public import proofs.«01_k».proof.Proof.Base
public import proofs.«01_k».proof.Proof.Gen.KernelIdeal.Launch
public import proofs.«01_k».proof.Proof.Gen.KernelIdeal.Skeleton
public import proofs.«01_k».proof.Proof.Gen.KernelIdeal.Points
public import Idealize.ShloMosaic.Lib.VecWindow
public import Idealize.ShloMosaic.Lib.Pipeline.RegionsLoop
public import Idealize.ShloMosaic.Lib.Tactic
public import Idealize.ShloMosaic.Lib.ValueIdxCore

@[expose] public section

noncomputable section

namespace Cert.Proof.Run

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- Device `d`'s TensorCore. -/
abbrev tcT (d : Dev nD) : Thread nD τ := SparseCore.T d

/-- Memref `M` of device `d`'s TensorCore held whole at `f`. -/
abbrev pt (d : Dev nD) {sp : Space} {S : Shape} {e : EltTy} (M : Memref sig .tc sp S e) (f : Buf (Elt F) (M.view.loc (tcT d))) : sProp 𝕄 :=
  M.view.loc (tcT d) ↦{fullShare} f

local notation "accM" => (Memref.whole Cert.KernelIdeal.cc0_scratch0 : Memref Cert.KernelIdeal.sig Kind.tc Space.vmem Cert.KernelIdeal.S2048x256 EltTy.f32)

/-- The accumulator's step at point `i`: the four blocks' squared differences from row `i` of the two targets, added in turn. -/
def accStep (i : grid0.Coords) (x1 x2 x3 x4 : FVec F S2048x256 .f32) (x5 x6 : FVec F S16x256 .f32) (a : FVec F S2048x256 .f32) : FVec F S2048x256 .f32 :=
  let r5 : FVec F S1x256 .f32 := fun j => x5 ((Rect.unit (s := S16x256) (k0_off1 i) S1x256.size (k0_off1_inb i)).emb j)
  let r6 : FVec F S1x256 .f32 := fun j => x6 ((Rect.unit (s := S16x256) (k0_off1 i) S1x256.size (k0_off1_inb i)).emb j)
  k0_pay1 r6 (k0_pay4 r5 a x1 x2) (k0_pay5 r6 x3) x4

/-- The body's first condition: point 0. -/
abbrev isFirst (i : grid0.Coords) : BitVec 1 := Scalar.cmpi .ne (Scalar.extui (Scalar.cmpi .eq (BitVec.ofNat 32 (i 0).val) 0#32) : BitVec 32) 0#32

/-- What the accumulator holds when point `i`'s step reads it: zeros at the first point, else what the point found. -/
def accIn (i : grid0.Coords) (a : FVec F S2048x256 .f32) : FVec F S2048x256 .f32 := if isFirst i = 1#1 then k0_pay3 else a

/-- What the result's buffer holds after point `i`: at the last point the accumulator's sums, else what the point found. -/
def outAt (i : grid0.Coords) (a : FVec F S2048x256 .f32) (x7 : FVec F S8x256 .f32) : FVec F S8x256 .f32 := if k0_cond2 i = 1#1 then k0_pay2 a else x7

omit [FloatOps F] in
/-- A whole memref's ownership, as its buffer held at contents that read `x`. -/
theorem owns_whole' (d : Dev nD) {sp : Space} {S : Shape} {e : EltTy} (M : Memref sig .tc sp S e) (h : M.IsWhole) (x : S.Idx → Elt F e) :
    (owns (tcT d) M fullShare x : sProp 𝕄) = iprop(∃ f, ⌜M.view.read (Elt F) f = x⌝ ∗ pt d M f) := by
  unfold owns; rw [h.set_eq_univ]

omit [FloatOps F] in
theorem acc_of_ex (d : Dev nD) (g : FVec F S2048x256 .f32) :
    (iprop(∃ f, ⌜(accM).view.read (Elt F) f = g⌝ ∗ pt d accM f) : sProp 𝕄) ⊢ pt d accM g := by
  iintro ⟨%f, %e, H⟩; subst e; iexact H

theorem step_eq {i : grid0.Coords} {x1 x2 x3 x4 y1 y2 y3 y4 a b : FVec F S2048x256 .f32} {x5 x6 : FVec F S16x256 .f32} {r5 r6 : FVec F S1x256 .f32}
    (e1 : y1 = x1) (e2 : y2 = x2) (e3 : y3 = x3) (e4 : y4 = x4)
    (e5 : r5 = fun j => x5 ((Rect.unit (s := S16x256) (k0_off1 i) S1x256.size (k0_off1_inb i)).emb j))
    (e6 : r6 = fun j => x6 ((Rect.unit (s := S16x256) (k0_off1 i) S1x256.size (k0_off1_inb i)).emb j)) (ea : b = a) :
    k0_pay1 r6 (k0_pay4 r5 b y1 y2) (k0_pay5 r6 y3) y4 = accStep i x1 x2 x3 x4 x5 x6 a := by
  subst e1 e2 e3 e4 e5 e6 ea; rfl

set_option maxHeartbeats 1000000 in
/-- The body at any point: the accumulator takes the point's step, and at the last point its sums go to the result's buffer. -/
theorem body_run (d : Dev nD) (i : grid0.Coords)
    (M1 : Memref sig .tc .vmem S2048x256 .f32) (w1 : M1.IsWhole) (M2 : Memref sig .tc .vmem S2048x256 .f32) (w2 : M2.IsWhole)
    (M3 : Memref sig .tc .vmem S2048x256 .f32) (w3 : M3.IsWhole) (M4 : Memref sig .tc .vmem S2048x256 .f32) (w4 : M4.IsWhole)
    (M5 : Memref sig .tc .vmem S16x256 .f32) (w5 : M5.IsWhole) (M6 : Memref sig .tc .vmem S16x256 .f32) (w6 : M6.IsWhole)
    (M7 : Memref sig .tc .vmem S8x256 .f32) (w7 : M7.IsWhole)
    (x1 x2 x3 x4 : FVec F S2048x256 .f32) (x5 x6 : FVec F S16x256 .f32) (x7 : FVec F S8x256 .f32) (a : FVec F S2048x256 .f32)
    (E : Set ℕ) (Q : PUnit → sProp 𝕄) :
    iprop(owns (tcT d) M1 fullShare x1 ∗ owns (tcT d) M2 fullShare x2 ∗ owns (tcT d) M3 fullShare x3 ∗ owns (tcT d) M4 fullShare x4
        ∗ owns (tcT d) M5 fullShare x5 ∗ owns (tcT d) M6 fullShare x6 ∗ owns (tcT d) M7 fullShare x7 ∗ pt d accM a
        ∗ (iprop(owns (tcT d) M1 fullShare x1 ∗ owns (tcT d) M2 fullShare x2 ∗ owns (tcT d) M3 fullShare x3 ∗ owns (tcT d) M4 fullShare x4
            ∗ owns (tcT d) M5 fullShare x5 ∗ owns (tcT d) M6 fullShare x6
            ∗ owns (tcT d) M7 fullShare (outAt i (accStep i x1 x2 x3 x4 x5 x6 (accIn i a)) x7)
            ∗ pt d accM (accStep i x1 x2 x3 x4 x5 x6 (accIn i a))) -∗ Q ⟨⟩))
      ⊢ wp frame (wpE (defs₀ (F := F)) Variants.none (tcT d) none) E
          (cc0_body i M1 w1 M2 w2 M3 w3 M4 w4 M5 w5 M6 w6 M7 w7 accM (Memref.isWhole_whole _)) Q := by
  rw [cc0_body_eq_skeleton]; unfold cc0_body_skel; rw [k0_part1_eq_skeleton]; unfold k0_part1_skel
  rw [owns_whole' d M1 w1, owns_whole' d M2 w2, owns_whole' d M3 w3, owns_whole' d M4 w4, owns_whole' d M5 w5, owns_whole' d M6 w6,
    owns_whole' d M7 w7, owns_whole' d M7 w7]
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, H8, Hk⟩
  subst e1 e2 e3 e4 e5 e6 e7
  by_cases h1 : isFirst i = 1#1 <;> by_cases h2 : k0_cond2 i = 1#1
  all_goals
    sl_exec!
    sl_step
    iapply Hk
    isplitl [H1]; · iexists f1; isplitr; swap; (· iexact H1); ipureintro; rfl
    isplitl [H2]; · iexists f2; isplitr; swap; (· iexact H2); ipureintro; rfl
    isplitl [H3]; · iexists f3; isplitr; swap; (· iexact H3); ipureintro; rfl
    isplitl [H4]; · iexists f4; isplitr; swap; (· iexact H4); ipureintro; rfl
    isplitl [H5]; · iexists f5; isplitr; swap; (· iexact H5); ipureintro; rfl
    isplitl [H6]; · iexists f6; isplitr; swap; (· iexact H6); ipureintro; rfl
    isplitl [H7]
    · iexists _; isplitr; swap; (· iexact H7); ipureintro
      unfold outAt
      first | rw [if_pos h2] | rw [if_neg h2]
      try
        refine (View.read_writes_full M7.view _ _ _ _).trans ?_
        refine congrArg k0_pay2 ?_
        refine (View.readCov_full (accM).view _ _ _ _).trans ?_
        refine step_eq (View.readAt_full _ _ _) (View.readAt_full _ _ _) (View.readAt_full _ _ _) (View.readAt_full _ _ _) rfl rfl ?_
        unfold accIn
        first
          | (rw [if_pos h1]; exact View.readCov_full (accM).view _ _ _ _)
          | (rw [if_neg h1]; exact View.readAt_full _ _ _)
    iapply (acc_of_ex d)
    iexists _; isplitr; swap; (· iexact H8); ipureintro
    refine (View.read_writes_full (accM).view _ _ _ _).trans ?_
    refine step_eq (View.readAt_full _ _ _) (View.readAt_full _ _ _) (View.readAt_full _ _ _) (View.readAt_full _ _ _) rfl rfl ?_
    unfold accIn
    first
      | (rw [if_pos h1]; exact View.readCov_full (accM).view _ _ _ _)
      | (rw [if_neg h1]; exact View.readAt_full _ _ _)

/-! ## The pipeline's data -/

/-- The accumulator before point `n`: the steps of the points below it, from zeros. -/
def accN (m : (ℓ : Loc nD τ sig) → Buf (Elt F) ℓ) (d : Dev nD) : ℕ → FVec F S2048x256 .f32
  | 0 => k0_pay3
  | n + 1 =>
    if h : n < cfg0.N then
      accStep (grid0.coords ⟨n, h⟩)
        (((cfg0.win 0).blk ⟨n, h⟩).view.read (Elt F) (m ((tcT d).loc main_arg2)))
        (((cfg0.win 1).blk ⟨n, h⟩).view.read (Elt F) (m ((tcT d).loc main_arg4)))
        (((cfg0.win 2).blk ⟨n, h⟩).view.read (Elt F) (m ((tcT d).loc main_arg3)))
        (((cfg0.win 3).blk ⟨n, h⟩).view.read (Elt F) (m ((tcT d).loc main_arg5)))
        (m (gvLoc d)) (m (gtLoc d)) (accIn (grid0.coords ⟨n, h⟩) (accN m d n))
    else k0_pay3

variable (m : (ℓ : Loc nD τ sig) → Buf (Elt F) ℓ)

/-- The pipeline's data: the arrays at the entry's contents, each input's buffer left as fetched, the result's at the accumulator's sums,
    between points the accumulator at the steps so far, and what the thread owes its SparseCores carried along. -/
def dat (d : Dev nD) : Pipeline.Dat τ (Elt F) (HIx 1) ℕ UU ℕ cfg0 d where
  A w := m ((tcT d).loc (Pipeline.arrRef spec0 w))
  after w t := match w with
    | ⟨0, _⟩ => ((cfg0.win 0).blk t).view.read (Elt F) (m ((tcT d).loc main_arg2))
    | ⟨1, _⟩ => ((cfg0.win 1).blk t).view.read (Elt F) (m ((tcT d).loc main_arg4))
    | ⟨2, _⟩ => ((cfg0.win 2).blk t).view.read (Elt F) (m ((tcT d).loc main_arg3))
    | ⟨3, _⟩ => ((cfg0.win 3).blk t).view.read (Elt F) (m ((tcT d).loc main_arg5))
    | ⟨4, _⟩ => m (gvLoc d)
    | ⟨5, _⟩ => m (gtLoc d)
    | ⟨6, _⟩ => k0_pay2 (accN m d 12)
    | ⟨_ + 7, h⟩ => absurd h (Nat.not_lt.2 (Nat.le_add_left _ _))
  Φ t := iprop(∃ a : FVec F S2048x256 .f32, ⌜t.val ≠ 0 → a = accN m d t.val⌝ ∗ pt d accM a)
  q _ := fullShare
  owed _ := (K (F := F)).Otc d 0
  recorded _ := {p | (K (F := F)).lev (tcT d, p.1) p.2 ≤ 0}

theorem before_0 (d : Dev nD) (t : Fin cfg0.N) (x : (cfg0.win 0).block.Idx → Elt F (cfg0.win 0).elt) :
    (dat m d).before 0 t x = ((cfg0.win 0).blk t).view.read (Elt F) (m ((tcT d).loc main_arg2)) := by
  unfold Pipeline.Dat.before; rw [if_pos (fetch0_0 t)]; rfl

theorem before_1 (d : Dev nD) (t : Fin cfg0.N) (x : (cfg0.win 1).block.Idx → Elt F (cfg0.win 1).elt) :
    (dat m d).before 1 t x = ((cfg0.win 1).blk t).view.read (Elt F) (m ((tcT d).loc main_arg4)) := by
  unfold Pipeline.Dat.before; rw [if_pos (fetch0_1 t)]; rfl

theorem before_2 (d : Dev nD) (t : Fin cfg0.N) (x : (cfg0.win 2).block.Idx → Elt F (cfg0.win 2).elt) :
    (dat m d).before 2 t x = ((cfg0.win 2).blk t).view.read (Elt F) (m ((tcT d).loc main_arg3)) := by
  unfold Pipeline.Dat.before; rw [if_pos (fetch0_2 t)]; rfl

theorem before_3 (d : Dev nD) (t : Fin cfg0.N) (x : (cfg0.win 3).block.Idx → Elt F (cfg0.win 3).elt) :
    (dat m d).before 3 t x = ((cfg0.win 3).blk t).view.read (Elt F) (m ((tcT d).loc main_arg5)) := by
  unfold Pipeline.Dat.before; rw [if_pos (fetch0_3 t)]; rfl

omit [FloatOps F] in
/-- A target's window, whose one block is the whole array. -/
theorem whole_4 (d : Dev nD) (t : Fin cfg0.N) (f : Buf (Elt F) (gvLoc d)) : ((cfg0.win 4).blk t).view.read (Elt F) f = f := by
  funext j
  rw [View.read_apply]
  show f _ = f _
  congr 1; funext a; apply Fin.ext
  match a with
  | ⟨0, _⟩ => show 0 * 16 + 1 * (j 0).val = (j 0).val; omega
  | ⟨1, _⟩ => show 0 * 256 + 1 * (j 1).val = (j 1).val; omega

omit [FloatOps F] in
theorem whole_5 (d : Dev nD) (t : Fin cfg0.N) (f : Buf (Elt F) (gtLoc d)) : ((cfg0.win 5).blk t).view.read (Elt F) f = f := by
  funext j
  rw [View.read_apply]
  show f _ = f _
  congr 1; funext a; apply Fin.ext
  match a with
  | ⟨0, _⟩ => show 0 * 16 + 1 * (j 0).val = (j 0).val; omega
  | ⟨1, _⟩ => show 0 * 256 + 1 * (j 1).val = (j 1).val; omega

theorem before_4 (d : Dev nD) (t : Fin cfg0.N) (x : (cfg0.win 4).block.Idx → Elt F (cfg0.win 4).elt) :
    (dat m d).before 4 t x = m (gvLoc d) := by
  by_cases ht : (cfg0.win 4).fetch t = true
  · unfold Pipeline.Dat.before; rw [if_pos ht]; exact (whole_4 (F := F) d t (m (gvLoc d)))
  · rw [Pipeline.Dat.before_of_pos _ _ _ (fun h => ht ((fetch0_4 t).2 (by rw [h]))) (Bool.eq_false_iff.2 ht)]
    rfl

theorem before_5 (d : Dev nD) (t : Fin cfg0.N) (x : (cfg0.win 5).block.Idx → Elt F (cfg0.win 5).elt) :
    (dat m d).before 5 t x = m (gtLoc d) := by
  by_cases ht : (cfg0.win 5).fetch t = true
  · unfold Pipeline.Dat.before; rw [if_pos ht]; exact (whole_5 (F := F) d t (m (gtLoc d)))
  · rw [Pipeline.Dat.before_of_pos _ _ _ (fun h => ht ((fetch0_5 t).2 (by rw [h]))) (Bool.eq_false_iff.2 ht)]
    rfl

theorem first_iff : ∀ t : Fin cfg0.N, isFirst (grid0.coords t) = 1#1 ↔ t.val = 0 :=
  Fin.forall_iff.2 (by decide +kernel)

theorem last_iff : ∀ t : Fin cfg0.N, k0_cond2 (grid0.coords t) = 1#1 ↔ t.val = 11 :=
  Fin.forall_iff.2 (by decide +kernel)

/-- The body at every point, from what the pipeline hands it to what it takes back. -/
theorem body_obligation (d : Dev nD) : Pipeline.BodyObligation (dat m d) (defs₀ (F := F)) 𝒱₀ (none : HIx 1) Set.univ := fun t => by
  rw [bigSep_W0, bigSep_W0]
  rw [show (dat m d).owesAt none t.succ = (dat m d).owesAt none t.castSucc from rfl]
  have hΦ (n : Fin (cfg0.N + 1)) : (dat m d).Φ n = iprop(∃ a : FVec F S2048x256 .f32, ⌜n.val ≠ 0 → a = accN m d n.val⌝ ∗ pt d accM a) := rfl
  rw [hΦ, hΦ]
  simp only [before_0, before_1, before_2, before_3, before_4, before_5]
  iintro ⟨⟨%a, %ha, Ha⟩, Howes, ⟨%d0, H0⟩, ⟨%d1, H1⟩, ⟨%d2, H2⟩, ⟨%d3, H3⟩, ⟨%d4, H4⟩, ⟨%d5, H5⟩, ⟨%d6, H6⟩⟩
  have hin : accIn (grid0.coords t) a = accIn (grid0.coords t) (accN m d t.val) := by
    unfold accIn
    by_cases h : isFirst (grid0.coords t) = 1#1
    · rw [if_pos h, if_pos h]
    · rw [if_neg h, if_neg h, ha (fun h0 => h ((first_iff t).2 h0))]; rfl
  have hstep : accN m d (t.val + 1) = _ := dif_pos t.isLt
  iapply (body_run d (grid0.coords t) (st0_0 t) _ (st0_1 t) _ (st0_2 t) _ (st0_3 t) _ (st0_4 t) _ (st0_5 t) _ (st0_6 t) _ _ _ _ _ _ _ _ a Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [Ha]; · iexact Ha
  rw [hin, ← hstep]
  iintro ⟨H0, H1, H2, H3, H4, H5, H6, Ha⟩
  isplitl [Ha]
  · iexists (accN m d (t.val + 1)); isplitr; swap; (· iexact Ha); ipureintro; exact fun _ => rfl
  isplitl [Howes]; · iexact Howes
  isplitl [H0]; · iexact H0
  isplitl [H1]; · iexact H1
  isplitl [H2]; · iexact H2
  isplitl [H3]; · iexact H3
  isplitl [H4]; · iexact H4
  isplitl [H5]; · iexact H5
  by_cases h : k0_cond2 (grid0.coords t) = 1#1
  · have h11 := (last_iff t).1 h
    have hi : idle0 6 (grid0.coords t) = false := by
      show (!(k0_cond2 (grid0.coords t) == 1#1)) = false
      rw [h]; rfl
    rw [hi]
    unfold outAt; rw [if_pos h, h11]
    iexact H6
  · have h11 : (win0 6).flush t = false :=
      Bool.eq_false_iff.2 fun hf => h ((last_iff t).2 (by have := (flush0_6 t).1 hf; have := t.isLt; have hN : cfg0.N = 12 := N_0; omega))
    have hi : idle0 6 (grid0.coords t) = true := by
      show (!(k0_cond2 (grid0.coords t) == 1#1)) = true
      rw [beq_eq_false_iff_ne.2 h]; rfl
    rw [hi, h11]
    unfold outAt; rw [if_neg h]
    iexists d6; iexact H6

/-! ## The region -/

/-- Before the SparseCore call the TensorCore owes only units of the call's own index. -/
theorem Otc_none (d : Dev nD) (g : GSem nD τ sig) : (K (F := F)).Otc d 0 g none = 0 := by
  unfold SparseCore.Cfg.Otc
  simp [Finset.sum_apply, Finsupp.finset_sum_apply, tallyAt_apply]

/-- The pipelines' data, one pipeline. -/
def dats (p : Fin 1) (d : Dev nD) : Pipeline.Dat τ (Elt F) (HIx 1) ℕ UU ℕ (Pipeline.pin (pcfgs (F := F)) (fun q => (cfgs q).toPCfg_adm) p) d := dat m d

/-- What the region leaves the result's array at. -/
def tcOut (d : Dev nD) : Buf (Elt F) ((tcT d).loc main_v0) := (dat m d).arrAt 6 cfg0.N

/-- The buffers after the region. -/
def afterTc (d : Dev nD) (b : Ref sig .tc) : Buf (Elt F) ((tcT d).loc b) :=
  if h : b = main_v0 then h ▸ tcOut m d else m ((tcT d).loc b)

/-- What the thread owes going in and coming out. -/
abbrev owing (d : Dev nD) : sProp 𝕄 := iprop(∃ W, ⌜(K (F := F)).WBelow (tcT d) W 0⌝ ∗ owes (tcT d) ((K (F := F)).Otc d 0) W)

set_option backward.isDefEq.respectTransparency.types false in
/-- The TensorCore call's region: from the launch's buffers to the same with the result's array filled. -/
def reg : Pipeline.RegionSeg (pcfgs (F := F)) (fun q => (cfgs q).toPCfg_adm) (dats m) (none : HIx 1) defs₀ 𝒱₀ (K (F := F)).L (K (F := F)).lev 0 where
  win := (launch0).win.to₀
  block_pos := (launch0).block_pos
  stage_whole := (launch0).stage_whole
  K := PEmpty
  osem k := k.elim
  ho := Pipeline.OwnSemFacts.none _
  hbody c := (body_obligation m c).loose
  hwaits c := Pipeline.cellsWaits_intro _ _ _ 0 c fun w s t => (K (F := F)).mayWait_none _ (Otc_none c)
  pre c := iprop(unscopedBufs c (fun b => m ((tcT c).loc b)) ∗ owing c)
  post c := iprop(unscopedBufs c (afterTc m c) ∗ owing c)
  X _ := BI.emp
  Y _ := BI.emp
  Z c := iprop(Pipeline.unscopedRest (Ix := HIx 1) (Name := ℕ) (U := UU) (Lvl := ℕ) spec0 c (fun b => m ((tcT c).loc b)))
  hentry c := by
    rw [Pipeline.ownSems0_none]
    have hsplit := Pipeline.arrays_of_unscopedBufs (p := 0) (pcfgs (F := F)) (fun q => (cfgs q).toPCfg_adm) (dats m) (launch0).win (launch0).arr_whole c
      ((dats m 0 c).share_full fun _ => rfl) (fun b => m ((tcT c).loc b)) fun _ => rfl
    iintro ⟨⟨Hub, %W, %hW, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hrest
  hin c := by
    rw [show (dats m 0 c).Φ 0 = iprop(∃ a : FVec F S2048x256 .f32, ⌜(0 : ℕ) ≠ 0 → a = accN m c 0⌝ ∗ pt c accM a) from rfl, scopedRest0_eq]
    iintro ⟨-, -, %f, Hr⟩
    iexists f; isplitr; · ipureintro; exact fun h => absurd rfl h
    iexact Hr
  hout c := by
    rw [Pipeline.ownSems0_none, show (dats m 0 c).Φ (Fin.last _) = iprop(∃ a : FVec F S2048x256 .f32, ⌜(Fin.last cfg0.N).val ≠ 0 → a = accN m c (Fin.last cfg0.N).val⌝ ∗ pt c accM a) from rfl, scopedRest0_eq]
    iintro ⟨%f, -, Hr⟩
    isplitr; · iempintro
    isplitr; · iempintro
    iexists f; iexact Hr
  hexit c := by
    have hjoin := Pipeline.unscopedBufs_of_arrays (p := 0) (pcfgs (F := F)) (fun q => (cfgs q).toPCfg_adm) (Ix := HIx 1) (Name := ℕ) (U := UU) (Lvl := ℕ) (launch0).win (launch0).arr_whole c
      (dats m) ((dats m 0 c).share_full fun _ => rfl) (fun b => m ((tcT c).loc b)) (afterTc m c) ((dats m 0 c).arrAt · cfg0.N)
      (fun w => by
        fin_cases w
        · exact ((dats m 0 c).arrAt_in 0 rfl _)
        · exact ((dats m 0 c).arrAt_in 1 rfl _)
        · exact ((dats m 0 c).arrAt_in 2 rfl _)
        · exact ((dats m 0 c).arrAt_in 3 rfl _)
        · exact ((dats m 0 c).arrAt_in 4 rfl _)
        · exact ((dats m 0 c).arrAt_in 5 rfl _)
        · rfl)
      (fun b hb => dif_neg fun (h : b = main_v0) => hb (h ▸ Finset.mem_image.mpr ⟨6, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr; swap; (· iexact HO)
    ipureintro
    intro p hp
    rcases hW hp with h | ⟨w, s, rfl⟩
    · exact h
    · exact le_rfl

end Cert.Proof.Run

end
-- ==== Proof.Launch.lean ====
/-
  The program's run: the launch's ghost state, @main on the TensorCore (the pipelined call, the SparseCore call, the host
  operations), and what the final memory holds.
-/
module

public import proofs.«01_k».proof.Defs
public import proofs.«01_k».proof.Proof.TileObl
public import proofs.«01_k».proof.Proof.Region
public import Idealize.ShloMosaic.Lib.SparseCore.Quiescent

@[expose] public section

noncomputable section

namespace Cert.Proof.Run

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_seq)

variable {F : FTy → Type} [FloatOps F]

local notation "𝕄" => MT nD τ sig (HIx 1) (Elt F) ℕ UU ℕ

/-! ## The launch's ghost state -/

/-- The pipeline's rounds: the left factor of the right factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP (F := F)).LandsIn (upEmb : UEmb _ 𝕄) := by unfold EP; infer_instance

/-- The pipeline at the one contents of its (no) tables. -/
abbrev pinned : Fin 1 → Pipeline.Cfg sig Λ₀ := Pipeline.pin (pcfgs (F := F)) (fun q => (cfgs q).toPCfg_adm)

omit [FloatOps F] in
theorem pinj : Function.Injective (Pipeline.cellOf (nD := nD) (τ := τ) (pinned (F := F))) := cellOf_inj

def u₀ : UU :=
  (initOf (K (F := F)).hsCells (K (F := F)).hsToks,
    (initOf (Pipeline.cells (nD := nD) (τ := τ) (pinned (F := F)) pinj) (Pipeline.launchToks (nD := nD) (τ := τ) (pinned (F := F)) pinj), 1))

omit [FloatOps F] in
theorem ownU_split (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

omit [FloatOps F] in
theorem bigSep_emp' {I : Type} (s : Finset I) : (bigSep s fun _ => iprop(emp)) = (iprop(emp) : sProp 𝕄) := bigSep_emp_const s

/-- What each device's @main is given besides its own state: its pipeline's cells and their tokens. -/
abbrev G (d : Dev nD) : sProp 𝕄 := iprop(Pipeline.cellsGhost (pinned (F := F)) EP 0 d ∗ Pipeline.toksInit (pinned (F := F)) EP 0 d)

variable (m : (ℓ : Loc nD τ sig) → Buf (Elt F) ℓ) (ρ : Dev nD → PrngReg)

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_split _ _) $$ Hu
  icases H with ⟨HH, HP⟩
  imod (Pipeline.fund_ghost (pinned (F := F)) EP pinj) $$ HP with ⟨Hg, Ht⟩
  imodintro
  isplitl [HH]; · iexact HH
  isplitl [Hg Ht]
  · rw [bigSep_sep']
    isplitl [Hg]
    · rw [show (bigSep Finset.univ fun d : Dev nD => Pipeline.cellsGhost (pinned (F := F)) (EP (F := F)) 0 d)
          = bigSep Finset.univ fun d : Dev nD => bigSep Finset.univ fun p => Pipeline.cellsGhost (pinned (F := F)) (EP (F := F)) p d from
        bigSep_congr fun d _ => (bigSep_univ_of_subsingleton (0 : Fin 1) (Φ := fun p => Pipeline.cellsGhost (pinned (F := F)) (EP (F := F)) p d)).symm]
      iexact Hg
    · rw [show (bigSep Finset.univ fun d : Dev nD => Pipeline.toksInit (pinned (F := F)) (EP (F := F)) 0 d)
          = bigSep Finset.univ fun d : Dev nD => bigSep Finset.univ fun p => Pipeline.toksInit (pinned (F := F)) (EP (F := F)) p d from
        bigSep_congr fun d _ => (bigSep_univ_of_subsingleton (0 : Fin 1) (Φ := fun p => Pipeline.toksInit (pinned (F := F)) (EP (F := F)) p d)).symm]
      iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The buffers at each stage of @main -/

abbrev v0' : DevRef τ sig := Proc.devRef .tc main_v0
abbrev v1' : DevRef τ sig := Proc.devRef .tc main_v1
abbrev v2' : DevRef τ sig := Proc.devRef .tc main_v2
abbrev v3' : DevRef τ sig := Proc.devRef .tc main_v3
abbrev v4' : DevRef τ sig := Proc.devRef .tc main_v4
abbrev cst' : DevRef τ sig := Proc.devRef .tc main_cst
abbrev v5' : DevRef τ sig := Proc.devRef .tc main_v5
abbrev cst0' : DevRef τ sig := Proc.devRef .tc main_cst_0
abbrev v6' : DevRef τ sig := Proc.devRef .tc main_v6

/-- The buffers the host operations read and write. -/
abbrev S9 : Finset (DevRef τ sig) := {v0', v1', v2', v3', v4', cst', v5', cst0', v6'}

/-- The host operations, in order. -/
def ops : List (HloOp τ sig (Elt F)) :=
  [StableHlo.reshape main_v0 main_v2 (rfl : (.f32 : EltTy) = .f32) shapeCasts_S8x256_S2048,
   StableHlo.reshape main_v1 main_v3 (rfl : (.f32 : EltTy) = .f32) shapeCasts_S32x16_S512,
   StableHlo.binary main_v2 main_v3 main_v4 ((fun a b => concatenate S2560 0 [⟨S2048, a⟩, ⟨S512, b⟩] concatenates_S2048_S512_S2560_d0) : (⟨S2048, .f32⟩ : BufTy).Contents (Elt F) → (⟨S512, .f32⟩ : BufTy).Contents (Elt F) → (⟨S2560, .f32⟩ : BufTy).Contents (Elt F)),
   StableHlo.nullary main_cst (constant S_ .f32 0x00000000#32),
   StableHlo.binary main_v4 main_cst main_v5 ((fun x v => Host.reduceAdd x v reducesTo_S2560_S_d0 h_S_) : (⟨S2560, .f32⟩ : BufTy).Contents (Elt F) → (⟨S_, .f32⟩ : BufTy).Contents (Elt F) → (⟨S_, .f32⟩ : BufTy).Contents (Elt F)),
   StableHlo.nullary main_cst_0 (constant S_ .f32 0x34000000#32),
   StableHlo.binary main_v5 main_cst_0 main_v6 (mulf : (⟨S_, .f32⟩ : BufTy).Contents (Elt F) → (⟨S_, .f32⟩ : BufTy).Contents (Elt F) → (⟨S_, .f32⟩ : BufTy).Contents (Elt F))]

theorem main_eq (d : Dev nD) : main (F := F) d
    = (SparseCore.liftProg (Q := 1) (Prog.lift (.customCall (Pipeline.entry 0) ())) >>= fun _ => (K (F := F)).run d 0 >>= fun _ => StableHlo.seq ops) := rfl

omit [FloatOps F] in
theorem held_S9 (d : Dev nD) (W : Valuation τ sig (Elt F)) :
    (held (tcT d) S9 W : sProp 𝕄)
      = iprop(((tcT d).loc main_v0 ↦{fullShare} W v0') ∗ (oLoc d ↦{fullShare} W v1') ∗ ((tcT d).loc main_v2 ↦{fullShare} W v2')
          ∗ ((tcT d).loc main_v3 ↦{fullShare} W v3') ∗ ((tcT d).loc main_v4 ↦{fullShare} W v4') ∗ ((tcT d).loc main_cst ↦{fullShare} W cst')
          ∗ ((tcT d).loc main_v5 ↦{fullShare} W v5') ∗ ((tcT d).loc main_cst_0 ↦{fullShare} W cst0') ∗ (tcT d).loc main_v6 ↦{fullShare} W v6') := by
  unfold held S9
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((gvLoc d ↦{fullShare} W main_arg0) ∗ (gtLoc d ↦{fullShare} W main_arg1) ∗ (ovLoc d ↦{fullShare} W main_arg2) ∗ (otLoc d ↦{fullShare} W main_arg3)
          ∗ (rvLoc d ↦{fullShare} W main_arg4) ∗ (rtLoc d ↦{fullShare} W main_arg5) ∗ ((tcT d).loc main_arg6 ↦{fullShare} W main_arg6)
          ∗ ((tcT d).loc main_arg7 ↦{fullShare} W main_arg7)
          ∗ ((tcT d).loc main_v0 ↦{fullShare} W main_v0) ∗ (oLoc d ↦{fullShare} W main_v1) ∗ ((tcT d).loc main_v2 ↦{fullShare} W main_v2)
          ∗ ((tcT d).loc main_v3 ↦{fullShare} W main_v3) ∗ ((tcT d).loc main_v4 ↦{fullShare} W main_v4) ∗ ((tcT d).loc main_cst ↦{fullShare} W main_cst)
          ∗ ((tcT d).loc main_v5 ↦{fullShare} W main_v5) ∗ ((tcT d).loc main_cst_0 ↦{fullShare} W main_cst_0) ∗ (tcT d).loc main_v6 ↦{fullShare} W main_v6) := by
  unfold unscopedBufs
  rw [show (Finset.univ.filter fun b : Ref sig .tc => ¬ b.isScoped)
      = {main_arg0, main_arg1, main_arg2, main_arg3, main_arg4, main_arg5, main_arg6, main_arg7, main_v0, main_v1, main_v2, main_v3, main_v4, main_cst, main_v5, main_cst_0, main_v6} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

/-- The buffers when the host operations start: the two calls' results in place, the rest as at the launch. -/
def hostV (d : Dev nD) : Valuation τ sig (Elt F) := Function.update (Function.update (fun b => m (d, b)) v0' (tcOut m d)) v1' (scRes m d)

theorem hostV_v0 (d : Dev nD) : hostV m d v0' = tcOut m d :=
  (Function.update_of_ne (show v0' ≠ v1' by decide) _ _).trans (Function.update_self _ _ _)
theorem hostV_v1 (d : Dev nD) : hostV m d v1' = scRes m d := Function.update_self _ _ _
theorem hostV_ne (d : Dev nD) (b : DevRef τ sig) (h0 : b ≠ v0') (h1 : b ≠ v1') : hostV m d b = m (d, b) :=
  (Function.update_of_ne h1 _ _).trans (Function.update_of_ne h0 _ _)

theorem afterTc_ne (d : Dev nD) (b : Ref sig .tc) (h : b ≠ main_v0) : afterTc m d b = m ((tcT d).loc b) := dif_neg h
theorem afterTc_v0 (d : Dev nD) : afterTc m d main_v0 = tcOut m d := dif_pos rfl

/-- The buffers after the TensorCore call: the inputs, the SparseCore call's result, the sizes, and the rest of the host's. -/
theorem unscoped_after (d : Dev nD) : (unscopedBufs d (afterTc m d) : sProp 𝕄)
    ⊢ iprop(ins m d fullShare ∗ (oLoc d ↦{fullShare} m (oLoc d)) ∗ ((tcT d).loc main_arg6 ↦{fullShare} m ((tcT d).loc main_arg6))
        ∗ ((tcT d).loc main_arg7 ↦{fullShare} m ((tcT d).loc main_arg7))
        ∗ ((oLoc d ↦{fullShare} scRes m d) -∗ held (tcT d) S9 (hostV m d))) := by
  rw [unscopedBufs_eq, held_S9, hostV_v0, hostV_v1, hostV_ne m d v2' (by decide) (by decide), hostV_ne m d v3' (by decide) (by decide),
    hostV_ne m d v4' (by decide) (by decide), hostV_ne m d cst' (by decide) (by decide), hostV_ne m d v5' (by decide) (by decide),
    hostV_ne m d cst0' (by decide) (by decide), hostV_ne m d v6' (by decide) (by decide), afterTc_v0]
  repeat rw [afterTc_ne m d _ (by decide)]
  unfold ins
  iintro ⟨Hgv, Hgt, Hov, Hot, Hrv, Hrt, H6, H7, Hv0, Hv1, Hv2, Hv3, Hv4, Hc, Hv5, Hc0, Hv6⟩
  isplitl [Hgv Hgt Hov Hot Hrv Hrt]
  · isplitl [Hov]; · iexact Hov
    isplitl [Hrv]; · iexact Hrv
    isplitl [Hot]; · iexact Hot
    isplitl [Hrt]; · iexact Hrt
    isplitl [Hgv] <;> iassumption
  isplitl [Hv1]; · iexact Hv1
  isplitl [H6]; · iexact H6
  isplitl [H7]; · iexact H7
  iintro Ho
  isplitl [Hv0]; · iexact Hv0
  isplitl [Ho]; · iexact Ho
  isplitl [Hv2]; · iexact Hv2
  isplitl [Hv3]; · iexact Hv3
  isplitl [Hv4]; · iexact Hv4
  isplitl [Hc]; · iexact Hc
  isplitl [Hv5]; · iexact Hv5
  isplitl [Hc0]; · iexact Hc0
  iexact Hv6

/-- The tiles' numbers, each once. -/
def tileEquiv : Fin 2 × Fin 16 ≃ Fin 32 where
  toFun x := tileNo x.1.val x.2.val
  invFun w := (⟨w.val % 2, Nat.mod_lt _ (by omega)⟩, ⟨w.val / 2, by omega⟩)
  left_inv x := by
    obtain ⟨⟨c, hc⟩, ⟨i, hi⟩⟩ := x
    refine Prod.ext (Fin.ext ?_) (Fin.ext ?_)
    · show (2 * i + c) % 32 % 2 = c; omega
    · show (2 * i + c) % 32 / 2 = i; omega
  right_inv w := by
    refine Fin.ext ?_
    show (2 * (w.val / 2) + w.val % 2) % 32 = w.val
    omega

omit [FloatOps F] in
theorem rows_disjoint : ∀ w ∈ (Finset.univ : Finset (Fin 32)), ∀ w' ∈ (Finset.univ : Finset (Fin 32)), w ≠ w' → Disjoint (rowSet w) (rowSet w') := by
  intro w _ w' _ hne
  refine Finset.disjoint_left.2 fun j hj hj' => hne (Fin.ext ?_)
  exact (Finset.mem_filter.1 hj).2.symm.trans (Finset.mem_filter.1 hj').2

omit [FloatOps F] in
theorem rows_cover : (Finset.univ : Finset (Fin 32)).biUnion rowSet = Finset.univ :=
  Finset.eq_univ_iff_forall.2 fun j => Finset.mem_biUnion.2 ⟨⟨(j 0).val, (j 0).isLt⟩, Finset.mem_univ _, Finset.mem_filter.2 ⟨Finset.mem_univ _, rfl⟩⟩

omit [FloatOps F] in
/-- The result's array is its rows, the tiles' each. -/
theorem rows_eq (d : Dev nD) (f : Buf (Elt F) (oLoc d)) :
    (oLoc d ↦{fullShare} f : sProp 𝕄) = bigSep Finset.univ fun c : Fin 2 => bigSep Finset.univ fun i : Fin 16 => rowPts d (tileNo c.val i.val) f := by
  have h : (oLoc d ↦{fullShare} f : sProp 𝕄) = bigSep Finset.univ fun w : Fin 32 => rowPts d w f := by
    rw [← pointsTo_biUnion Finset.univ (ℓ := oLoc d) rowSet rows_disjoint, rows_cover]; try rfl
  rw [h, BI.bigSep_univ_equiv tileEquiv, BI.bigSep_univ_prod]; rfl

theorem st0_eq (d : Dev nD) :
    (bigSep Finset.univ fun c : Fin ((K (F := F)).nCore 0) => (P m).st 0 d c) = iprop(ins m d fullShare ∗ oLoc d ↦{fullShare} m (oLoc d)) := by
  refine (bigSep_sep' (s := Finset.univ) (Φ := fun c : Fin 2 => ins m d (Transfers.dealOf fullShare Finset.univ c)) (Ψ := fun c : Fin 2 => bigSep Finset.univ fun i : Fin 16 => rowPts d (tileNo c.val i.val) (m (oLoc d)))).trans ?_
  rw [← rows_eq, ← ins_deal m d fullShare (Finset.univ : Finset (Fin 2)) ⟨0, Finset.mem_univ _⟩]

theorem dn0_eq (d : Dev nD) :
    (bigSep Finset.univ fun c : Fin ((K (F := F)).nCore 0) => (P m).dn 0 d c) = iprop(ins m d fullShare ∗ oLoc d ↦{fullShare} scRes m d) := by
  refine (bigSep_sep' (s := Finset.univ) (Φ := fun c : Fin 2 => ins m d (Transfers.dealOf fullShare Finset.univ c)) (Ψ := fun c : Fin 2 => bigSep Finset.univ fun i : Fin 16 => rowPts d (tileNo c.val i.val) (scRes m d))).trans ?_
  rw [← rows_eq, ← ins_deal m d fullShare (Finset.univ : Finset (Fin 2)) ⟨0, Finset.mem_univ _⟩]

/-- What @main leaves the claims: the arguments at their launch contents, the host's buffers after the operations. -/
abbrev FIN (d : Dev nD) : sProp 𝕄 :=
  iprop(ins m d fullShare ∗ ((tcT d).loc main_arg6 ↦{fullShare} m ((tcT d).loc main_arg6)) ∗ ((tcT d).loc main_arg7 ↦{fullShare} m ((tcT d).loc main_arg7))
    ∗ (tcT d).loc main_v6 ↦{fullShare} StableHlo.after ops (hostV m d) v6')

theorem ops_sub : ∀ op ∈ ops (F := F), op.bufs ⊆ S9 := by
  unfold ops
  simp only [List.forall_mem_cons, List.not_mem_nil, false_implies, implies_true, and_true]
  exact ⟨show ({v0', v2'} : Finset (DevRef τ sig)) ⊆ S9 by decide, show ({v1', v3'} : Finset (DevRef τ sig)) ⊆ S9 by decide,
    show ({v2', v3', v4'} : Finset (DevRef τ sig)) ⊆ S9 by decide, show ({cst'} : Finset (DevRef τ sig)) ⊆ S9 by decide,
    show ({v4', cst', v5'} : Finset (DevRef τ sig)) ⊆ S9 by decide, show ({cst0'} : Finset (DevRef τ sig)) ⊆ S9 by decide,
    show ({v5', cst0', v6'} : Finset (DevRef τ sig)) ⊆ S9 by decide⟩

theorem ops_fresh : ∀ op ∈ ops (F := F), op.fresh = ∅ := by
  unfold ops
  simp only [List.forall_mem_cons, List.not_mem_nil, false_implies, implies_true, and_true]
  exact ⟨rfl, rfl, rfl, rfl, rfl, rfl, rfl⟩

/-- The pipelined call on the TensorCore, inside the program. -/
theorem region_run (d : Dev nD) (Q : PUnit → sProp 𝕄) :
    iprop((iprop(boundary (tcT d) ∗ (reg m).post d) -∗ Q ⟨⟩)
        ∗ boundary (tcT d) ∗ (reg m).pre d ∗ levAts (K (F := F)).L (K (F := F)).lev ∗ G (F := F) d)
      ⊢ wp frame (wpE ((K (F := F)).defs (D (F := F))) 𝒱 (tcT d) none) Set.univ
          (SparseCore.liftProg (Q := 1) (Prog.lift (.customCall (Pipeline.entry 0) ()))) Q := by
  refine BIBase.Entails.trans ?_ ((K (F := F)).wp_liftProg (D (F := F)) 𝒱 (tcT d) Set.univ none (Prog.lift (.customCall (Pipeline.entry 0) ())) Q)
  refine BIBase.Entails.trans ?_ (Pipeline.RegionSeg.wp (pcfgs (F := F)) (fun q => (cfgs q).toPCfg_adm) (dats m) (none : HIx 1) pinj EP defs₀ 𝒱₀
    (K (F := F)).L (K (F := F)).lev (reg m) d none (fun _ h => nomatch h) .ret Q)
  iintro ⟨Hk, Hb, Hpre, Hl, Hg⟩
  isplitl [Hk]
  · iintro H; rw [wp_ret]; imodintro; iapply Hk; iexact H
  isplitl [Hb]; · iexact Hb
  isplitl [Hpre]; · iexact Hpre
  isplitl [Hl]; · iexact Hl
  iexact Hg

/-- @main on device `d`'s TensorCore. -/
theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  rw [main_eq, wp_bind]
  unfold SparseCore.Cfg.tcRes SparseCore.Cfg.tcEnd
  iintro ⟨#Hctx, Hst, ⟨Hb, Hub, Hts, -⟩, Hg⟩
  ihave #Hlev := (SparseCore.Cfg.ctx_levAts (K := K (F := F)) κ) $$ Hctx
  ihave Hst' := (show ((K (F := F)).tcSt EH d 0 : sProp 𝕄) ⊢ iprop(owing d ∗ (owing d -∗ (K (F := F)).tcSt EH d 0)) from by
    unfold SparseCore.Cfg.tcSt
    iintro ⟨HO, H⟩
    isplitl [HO]; · iexact HO
    iintro HO
    isplitl [HO]; · iexact HO
    iexact H) $$ Hst
  icases Hst' with ⟨HO, Hst⟩
  iapply (region_run m d _)
  isplitr [Hb Hub HO Hg]; swap
  · isplitl [Hb]; · iexact Hb
    isplitl [Hub HO]
    · unfold reg; dsimp only
      isplitl [Hub]; · iexact Hub
      iexact HO
    isplitr; · iexact Hlev
    iexact Hg
  unfold reg; dsimp only
  iintro ⟨Hb, Hub, HO⟩
  ihave Hst' := Hst $$ HO
  ihave Hub' := (unscoped_after m d) $$ Hub
  icases Hub' with ⟨Hins, Ho, H6, H7, Hw⟩
  rw [wp_bind]
  iapply ((K (F := F)).wp_run (D (F := F)) 𝒱 (EH := EH) (P := P m) κ d 0) $$ [Hst' Hins Ho Hb H6 H7 Hw Hts]
  isplitr; · iexact Hctx
  isplitl [Hst']; · iexact Hst'
  isplitl [Hins Ho]
  · rw [st0_eq]
    isplitl [Hins] <;> iassumption
  iintro ⟨Hst, Hdn⟩
  ihave Hdn' := (Entails.of_eq (dn0_eq m d)) $$ Hdn
  icases Hdn' with ⟨Hins, Ho⟩
  ihave Hheld := Hw $$ Ho
  rw [show StableHlo.seq (ops (F := F)) = (StableHlo.seq ops >>= fun x => pure x) from (bind_pure _).symm]
  iapply (wp_seq 𝒱 none Set.univ d S9 _ ops ops_sub ops_fresh (hostV m d)) $$ [Hb Hheld]
  · isplitl [Hb] <;> iassumption
  iintro ⟨Hb, Hheld⟩
  ihave Hall := (Entails.of_eq (held_S9 d _)) $$ Hheld
  icases Hall with ⟨-, -, -, -, -, -, -, -, Hv6⟩
  iapply (le_wp_ret (Idealize.ShloMosaic.frame) _ _ _ _)
  isplitl [Hst]; · iexact Hst
  isplitr [Hb Hts]
  · isplitl [Hins]; · iexact Hins
    isplitl [H6]; · iexact H6
    isplitl [H7]; · iexact H7
    iexact Hv6
  isplitl [Hb] <;> iassumption

/-- The result on device `d`. -/
def Rv (d : Dev nD) : Buf (Elt F) ((tcT d).loc main_v6) := StableHlo.after ops (hostV m d) v6'

/-- What a final memory `s'` holds on device `d`: the result and the arguments. -/
def fq (d : Dev nD) (s' : Phys nD τ sig (Elt F)) : Prop :=
  s'.mem.mem ((tcT d).loc main_v6) = Rv m d ∧ s'.mem.mem (gvLoc d) = m (gvLoc d) ∧ s'.mem.mem (gtLoc d) = m (gtLoc d) ∧ s'.mem.mem (ovLoc d) = m (ovLoc d)
    ∧ s'.mem.mem (otLoc d) = m (otLoc d) ∧ s'.mem.mem (rvLoc d) = m (rvLoc d) ∧ s'.mem.mem (rtLoc d) = m (rtLoc d)
    ∧ s'.mem.mem ((tcT d).loc main_arg6) = m ((tcT d).loc main_arg6) ∧ s'.mem.mem ((tcT d).loc main_arg7) = m ((tcT d).loc main_arg7)

omit [FloatOps F] in
/-- A whole buffer held says what the memory has there. -/
theorem holds_of (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨Hx, HSI⟩
  ihave H := (persistent_entails_right (SI_pointsTo_agree (st := s') (ℓ := ℓ) (I := Finset.univ) (q := fullShare) (f := f))) $$ [HSI Hx]
  · isplitl [HSI] <;> iassumption
  icases H with ⟨%hx, HSI, -⟩
  isplitr
  · ipureintro; exact funext fun i => hx i (Finset.mem_univ i)
  iexact HSI

theorem hfin (d : Dev nD) (s' : Phys nD τ sig (Elt F)) : iprop(FIN m d ∗ SI s') ⊢ (⌜fq m d s'⌝ : sProp 𝕄) := by
  unfold FIN ins
  iintro ⟨⟨⟨Hov, Hrv, Hot, Hrt, Hgv, Hgt⟩, H6, H7, Hr⟩, HSI⟩
  ihave H := (holds_of s' _ _) $$ [Hr HSI]
  · isplitl [Hr] <;> iassumption
  icases H with ⟨%h0, HSI⟩
  ihave H := (holds_of s' _ _) $$ [Hgv HSI]
  · isplitl [Hgv] <;> iassumption
  icases H with ⟨%h1, HSI⟩
  ihave H := (holds_of s' _ _) $$ [Hgt HSI]
  · isplitl [Hgt] <;> iassumption
  icases H with ⟨%h2, HSI⟩
  ihave H := (holds_of s' _ _) $$ [Hov HSI]
  · isplitl [Hov] <;> iassumption
  icases H with ⟨%h3, HSI⟩
  ihave H := (holds_of s' _ _) $$ [Hot HSI]
  · isplitl [Hot] <;> iassumption
  icases H with ⟨%h4, HSI⟩
  ihave H := (holds_of s' _ _) $$ [Hrv HSI]
  · isplitl [Hrv] <;> iassumption
  icases H with ⟨%h5, HSI⟩
  ihave H := (holds_of s' _ _) $$ [Hrt HSI]
  · isplitl [Hrt] <;> iassumption
  icases H with ⟨%h6, HSI⟩
  ihave H := (holds_of s' _ _) $$ [H6 HSI]
  · isplitl [H6] <;> iassumption
  icases H with ⟨%h7, HSI⟩
  ihave H := (holds_of s' _ _) $$ [H7 HSI]
  · isplitl [H7] <;> iassumption
  icases H with ⟨%h8, -⟩
  ipureintro
  exact ⟨h0, h1, h2, h3, h4, h5, h6, h7, h8⟩

/-- What the program's run ends in. -/
def QC : PUnit × MemSt nD τ sig (Elt F) → Prop := fun r =>
  (∀ d : Dev nD, r.2.mem ((tcT d).loc main_v6) = Rv m d ∧ r.2.mem (gvLoc d) = m (gvLoc d) ∧ r.2.mem (gtLoc d) = m (gtLoc d) ∧ r.2.mem (ovLoc d) = m (ovLoc d)
    ∧ r.2.mem (otLoc d) = m (otLoc d) ∧ r.2.mem (rvLoc d) = m (rvLoc d) ∧ r.2.mem (rtLoc d) = m (rtLoc d)
    ∧ r.2.mem ((tcT d).loc main_arg6) = m ((tcT d).loc main_arg6) ∧ r.2.mem ((tcT d).loc main_arg7) = m ((tcT d).loc main_arg7))
    ∧ r.2.sem = fun _ => 0

/-- Every run of the program ends, with the result at its value, the arguments unchanged and every semaphore at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (G (F := F)) (FIN m) (u₀ (F := F)) (sep_elim_left.trans (hu₀ m)) (hmain m ρ) (fq m) (hfin m) (QC m) (fun _ h hz => ⟨h, hz⟩)

end Cert.Proof.Run

namespace Cert.Proof

open Idealize.ShloMosaic Idealize.SL.Sem

theorem frame_kernelIdeal : Cert.quiescent_KernelIdeal := fun m ρ _ =>
  (θ_run Cert.KernelIdeal.defs _ _).mono (fun _ h => ⟨fun c => (h.1 c).2, h.2⟩) (Run.run_main (F := Ideal) m ρ)

end Cert.Proof

end
-- ==== Proof.Frames.lean ====
/-
  The frame of the program as printed: its text is the idealized one's, so the run over any float values serves.
-/
module

public import proofs.«01_k».proof.Proof.Gen.Kernel
public import proofs.«01_k».proof.Proof.Launch

@[expose] public section

noncomputable section

namespace Cert.Proof

open Idealize.ShloMosaic Idealize.SL.Sem

variable {F : FTy → Type} [FloatOps F]
/-- The two programs' label bodies are one table. -/
theorem defs₀_eq : Cert.Kernel.defs₀ (F := F) = Cert.KernelIdeal.defs₀ := by
  funext p ℓ a
  match p, ℓ, a with
  | .tc, 0, a => rfl
  | .tc, 1, a => rfl
  | .scScalar c, 0, a => rfl
  | .scScalar c, 1, a => rfl
  | .scVector c s, 0, a => rfl
  | .scVector c s, 1, a => rfl

theorem defs_eq : Cert.Kernel.defs (F := F) = Cert.KernelIdeal.defs := by
  unfold Cert.Kernel.defs Cert.KernelIdeal.defs
  rw [defs₀_eq]; rfl

theorem frame_kernel : Cert.quiescent_Kernel := fun m ρ _ => by
  rw [defs_eq]
  exact (θ_run Cert.KernelIdeal.defs _ _).mono (fun _ h => ⟨fun c => (h.1 c).2, h.2⟩) (Run.run_main (F := Bits) m ρ)

end Cert.Proof

end
-- ==== Proof.Sums.lean ====
/-
  The sum of squared distances both programs compute, and the two orders the kernel adds it in.
-/
module

public import Idealize.ShloMosaic.PureOps.Ideal
public import Idealize.ShloMosaic.Lib.ValueIdxCore

@[expose] public section

noncomputable section

namespace Cert.Proof.Sums

open Idealize.ShloMosaic Idealize.ShloMosaic.ValueIdx

/-- A token array, and a target array, over the extended reals. -/
abbrev Tok := (⟨2, ![32768, 256]⟩ : Shape).Idx → EReal
abbrev Tgt := (⟨2, ![16, 256]⟩ : Shape).Idx → EReal

/-- The squared difference of row `n`, column `c` from the row's target: row `n / 2048` of the targets. -/
def q (A : Tok) (g : Tgt) (n c : ℕ) : EReal :=
  (A (ix2 (Fin.ofNat 32768 n) (Fin.ofNat 256 c)) - g (ix2 (Fin.ofNat 16 (n / 2048)) (Fin.ofNat 256 c)))
    * (A (ix2 (Fin.ofNat 32768 n) (Fin.ofNat 256 c)) - g (ix2 (Fin.ofNat 16 (n / 2048)) (Fin.ofNat 256 c)))

/-- All rows' squared differences. -/
def tot (A : Tok) (g : Tgt) : EReal := ∑ n : Fin 32768, ∑ c : Fin 256, q A g n.val c.val

theorem q_at (A : Tok) (g : Tgt) {n c : ℕ} {i : Fin 32768} {s : Fin 16} {j : Fin 256} (hi : i.val = n) (hs : s.val = n / 2048) (hj : j.val = c) :
    (A (ix2 i j) - g (ix2 s j)) * (A (ix2 i j) - g (ix2 s j)) = q A g n c := by
  subst hi hj
  have e1 : Fin.ofNat 32768 i.val = i := Fin.ext (Nat.mod_eq_of_lt i.isLt)
  have e2 : Fin.ofNat 256 j.val = j := Fin.ext (Nat.mod_eq_of_lt j.isLt)
  have e3 : Fin.ofNat 16 (i.val / 2048) = s := Fin.ext (by rw [← hs]; exact Nat.mod_eq_of_lt s.isLt)
  unfold q
  rw [e1, e2, e3]

theorem q_nonneg (A : Tok) (g : Tgt) (n c : ℕ) : 0 ≤ q A g n c := by
  unfold q
  generalize A _ - g _ = x
  rcases le_total 0 x with h | h
  · exact mul_nonneg h h
  · exact EReal.mul_nonneg_iff.2 (.inr ⟨h, h⟩)

variable {M : Type*} [AddCommMonoid M]

/-- A sum over a grid, row by row, is the sum over the positions. -/
theorem sum_grid (f : ℕ → M) (m n : ℕ) : ∑ i : Fin m, ∑ j : Fin n, f (n * i.val + j.val) = ∑ k : Fin (m * n), f k.val := by
  rw [← Fintype.sum_prod_type' (f := fun (i : Fin m) (j : Fin n) => f (n * i.val + j.val))]
  refine Fintype.sum_equiv finProdFinEquiv _ _ fun p => ?_
  rw [finProdFinEquiv_apply_val, Nat.add_comm]

/-- The same with the grid's columns summed first. -/
theorem sum_grid' (f : ℕ → M) (m n : ℕ) : ∑ j : Fin n, ∑ i : Fin m, f (n * i.val + j.val) = ∑ k : Fin (m * n), f k.val :=
  Finset.sum_comm.trans (sum_grid f m n)

/-- The SparseCore's order: tile, lane, lane group, chunk, row. -/
theorem sum_tiles (f : ℕ → ℕ → M) :
    ∑ w : Fin 32, ∑ l : Fin 16, ∑ g : Fin 16, ∑ h : Fin 2, ∑ r : Fin 128, f (24576 + 256 * w.val + 128 * h.val + r.val) (16 * g.val + l.val)
      = ∑ k : Fin 8192, ∑ c : Fin 256, f (24576 + k.val) c.val := by
  rw [← sum_grid (fun k => ∑ c : Fin 256, f (24576 + k) c.val) 32 256]
  refine Finset.sum_congr rfl fun w _ => ?_
  rw [sum_grid' (fun c => ∑ h : Fin 2, ∑ r : Fin 128, f (24576 + 256 * w.val + 128 * h.val + r.val) c) 16 16,
    ← sum_grid (fun j => ∑ c : Fin 256, f (24576 + (256 * w.val + j)) c.val) 2 128]
  refine Finset.sum_comm.trans (Finset.sum_congr rfl fun h _ => Finset.sum_comm.trans (Finset.sum_congr rfl fun r _ => Finset.sum_congr rfl fun c _ => ?_))
  rw [show 24576 + 256 * w.val + 128 * h.val + r.val = 24576 + (256 * w.val + (128 * h.val + r.val)) by omega]

/-- The TensorCore's order: sublane, column, group of eight rows, grid point. -/
theorem sum_points (f : ℕ → ℕ → M) :
    ∑ a : Fin 8, ∑ c : Fin 256, ∑ k : Fin 256, ∑ i : Fin 12, f (2048 * i.val + (8 * k.val + a.val)) c.val
      = ∑ n : Fin 24576, ∑ c : Fin 256, f n.val c.val := by
  rw [Finset.sum_comm, Finset.sum_comm (s := (Finset.univ : Finset (Fin 24576)))]
  refine Finset.sum_congr rfl fun c _ => ?_
  rw [sum_grid' (fun r => ∑ i : Fin 12, f (2048 * i.val + r) c.val) 256 8]
  exact sum_grid' (fun n => f n c.val) 12 2048

/-- Both together are all the rows. -/
theorem sum_rows (f : ℕ → M) : (∑ n : Fin 24576, f n.val) + ∑ k : Fin 8192, f (24576 + k.val) = ∑ n : Fin 32768, f n.val :=
  (Fin.sum_univ_add (fun n : Fin (24576 + 8192) => f n.val)).symm

end Cert.Proof.Sums

end
-- ==== Proof.KernelValue.lean ====
/-
  What the kernel's result is over the extended reals: the sum of all four arrays' squared differences, scaled.
-/
module

public import proofs.«01_k».proof.Proof.Launch
public import proofs.«01_k».proof.Proof.Sums
public import Idealize.ShloMosaic.Lib.Pointwise
public import Idealize.ShloMosaic.Lib.Pipeline.ValueKit.Geometry
public import Idealize.ShloMosaic.Lib.StableHlo.RunRead

@[expose] public section

noncomputable section

namespace Cert.Proof.Run

open Cert.KernelIdeal Cert.KernelIdeal.Gen Cert.Proof.Sums
open Idealize.ShloMosaic hiding ix0 ix1 ix2 ix3
open Idealize.ShloMosaic.ValueIdx

/-! ## The SparseCore call -/

theorem chunk_eq (B : S128x256.Idx → EReal) (G : S256.Idx → EReal) (f : Fin 16 → FVec Ideal S16 .f32) (g : Fin 16) (i : S16.Idx) (n : ℕ) :
    chunk (F := Ideal) B G f n g i = f g i + ∑ r : Fin n, (lane (F := Ideal) B (Fin.ofNat 128 r) g i - glane (F := Ideal) G g i)
        * (lane (F := Ideal) B (Fin.ofNat 128 r) g i - glane (F := Ideal) G g i) := by
  induction n with
  | zero => simp [chunk]
  | succ n ih =>
    rw [Fin.sum_univ_castSucc, ← add_assoc]
    exact congrArg (· + _) ih

theorem accOf_eq (A : Tok) (T : Tgt) (w : Fin 32) (f : Fin 16 → FVec Ideal S16 .f32) (g : Fin 16) (l : Fin 16) :
    accOf (F := Ideal) A T w f g (ix1 l) = f g (ix1 l)
      + ∑ h : Fin 2, ∑ r : Fin 128, q A T (24576 + 256 * w.val + 128 * h.val + r.val) (16 * g.val + l.val) := by
  unfold accOf
  rw [chunk_eq, chunk_eq, Fin.sum_univ_two, ← add_assoc]
  congr 1
  · congr 1
    refine Finset.sum_congr rfl fun r _ => ?_
    exact q_at A T (by have := r.isLt; simp [Nat.mod_eq_of_lt this]) (by show 12 + w.val / 8 = _; omega) rfl
  · refine Finset.sum_congr rfl fun r _ => ?_
    exact q_at A T (by have := r.isLt; simp [Nat.mod_eq_of_lt this]) (by show 12 + w.val / 8 = _; omega) rfl

theorem scOut_eq (ov rv ot rt : Tok) (gv gt : Tgt) (w : Fin 32) (l : Fin 16) :
    scOut (F := Ideal) ov rv ot rt gv gt (ix2 w l) = ∑ g : Fin 16, ∑ h : Fin 2, ∑ r : Fin 128,
      (fun n c => q ov gv n c + q rv gv n c + q ot gt n c + q rt gt n c) (24576 + 256 * w.val + 128 * h.val + r.val) (16 * g.val + l.val) := by
  have e : ∀ f : Fin 16 → FVec Ideal S16 .f32, total f (ix1 l) = ∑ g : Fin 16, f g (ix1 l) := fun f => by
    simp only [Fin.sum_univ_castSucc, Finset.univ_eq_empty, Finset.sum_empty, zero_add]; rfl
  show total _ (ix1 l) = _
  rw [e]
  refine Finset.sum_congr rfl fun g _ => ?_
  rw [accOf_eq, accOf_eq, accOf_eq, accOf_eq, show acc0 (F := Ideal) g (ix1 l) = 0 from Ideal.ofBits_zero_f32, zero_add]
  simp only [Finset.sum_add_distrib]

/-! ## The TensorCore call -/

theorem coords_val (t : Fin grid0.N) : (grid0.coords t 0).val = t.val := by revert t; decide

theorem rowOff_eq (i : grid0.Coords) : k0_off1 i = ![(i 0).val, 0] := by
  have h : ∀ a : Fin 12, k0_off1 (fun b => match b with | ⟨0, _⟩ => a) = ![a.val, 0] := by decide
  have := h (i 0)
  refine Eq.trans (congrArg k0_off1 ?_) this
  funext b; match b with | ⟨0, _⟩ => rfl

/-- One point's step at a position. -/
theorem accStep_eq (i : grid0.Coords) (x1 x2 x3 x4 : FVec Ideal S2048x256 .f32) (x5 x6 : FVec Ideal S16x256 .f32) (a : FVec Ideal S2048x256 .f32)
    (r : Fin 2048) (c : Fin 256) {s : Fin 16} (hs : s.val = (i 0).val) :
    accStep i x1 x2 x3 x4 x5 x6 a (ix2 r c) = a (ix2 r c)
        + (x1 (ix2 r c) - x5 (ix2 s c)) * (x1 (ix2 r c) - x5 (ix2 s c)) + (x2 (ix2 r c) - x5 (ix2 s c)) * (x2 (ix2 r c) - x5 (ix2 s c))
        + (x3 (ix2 r c) - x6 (ix2 s c)) * (x3 (ix2 r c) - x6 (ix2 s c)) + (x4 (ix2 r c) - x6 (ix2 s c)) * (x4 (ix2 r c) - x6 (ix2 s c)) := by
  have e : ∀ x : FVec Ideal S16x256 .f32, broadcastTo S2048x256 (fun j => x ((Rect.unit (s := S16x256) (k0_off1 i) S1x256.size (k0_off1_inb i)).emb j))
      broadcasts_S1x256_S2048x256 (ix2 r c) = x (ix2 s c) := fun x => by
    show x _ = x _
    congr 1; funext b; apply Fin.ext
    match b with
    | ⟨0, _⟩ => show k0_off1 i 0 + 1 * 0 = s.val; rw [rowOff_eq, hs]; rfl
    | ⟨1, _⟩ => show k0_off1 i 1 + 1 * c.val = c.val; rw [rowOff_eq]; simp
  rw [← e x5, ← e x6]
  unfold accStep k0_pay1
  show shapeCast S2048x256 _ shapeCasts_S2048x256_S2048x256 (ix2 r c) = _
  rw [shapeCast_id]
  rfl

/-- A token array's block at point `t`: rows `2048 t …`. -/
theorem blk_0 (t : Fin cfg0.N) (A : Tok) (r : Fin 2048) (c : Fin 256) {i : Fin 32768} (hi : i.val = 2048 * t.val + r.val) :
    ((cfg0.win 0).blk t).view.read (Elt Ideal) A (ix2 r c) = A (ix2 i c) := by
  have hx : ∀ t : Fin grid0.N, cc0_transform_0 (grid0.coords t) = ![t.val, 0] := by decide +kernel
  rw [View.read_apply]
  show A _ = A _
  congr 1; funext b; apply Fin.ext
  match b with
  | ⟨0, _⟩ => show cc0_transform_0 (grid0.coords t) 0 * 2048 + 1 * r.val = i.val; rw [hx]; show t.val * 2048 + _ = _; omega
  | ⟨1, _⟩ => show cc0_transform_0 (grid0.coords t) 1 * 256 + 1 * c.val = c.val; rw [hx]; show 0 * 256 + _ = _; omega

theorem blk_1 (t : Fin cfg0.N) (A : Tok) : ((cfg0.win 1).blk t).view.read (Elt Ideal) A = ((cfg0.win 0).blk t).view.read (Elt Ideal) A := rfl
theorem blk_2 (t : Fin cfg0.N) (A : Tok) : ((cfg0.win 2).blk t).view.read (Elt Ideal) A = ((cfg0.win 0).blk t).view.read (Elt Ideal) A := rfl
theorem blk_3 (t : Fin cfg0.N) (A : Tok) : ((cfg0.win 3).blk t).view.read (Elt Ideal) A = ((cfg0.win 0).blk t).view.read (Elt Ideal) A := rfl

variable (m : (ℓ : Loc nD τ sig) → Buf (Elt Ideal) ℓ) (d : Dev nD)

/-- All four arrays' squared differences at a row and column. -/
def q4 (n c : ℕ) : EReal :=
  q (m (ovLoc d)) (m (gvLoc d)) n c + q (m (rvLoc d)) (m (gvLoc d)) n c + q (m (otLoc d)) (m (gtLoc d)) n c + q (m (rtLoc d)) (m (gtLoc d)) n c

theorem accIn_accN (n : ℕ) (h : n < cfg0.N) : accIn (grid0.coords ⟨n, h⟩) (accN m d n) = accN m d n := by
  unfold accIn
  split
  · rename_i e
    have : ∀ t : Fin grid0.N, isFirst (grid0.coords t) = 1#1 → t.val = 0 := by decide +kernel
    have h0 : n = 0 := this ⟨n, h⟩ e
    subst h0; rfl
  · rfl

theorem accN_eq (r : Fin 2048) (c : Fin 256) (n : ℕ) (h : n ≤ 12) :
    accN m d n (ix2 r c) = ∑ i : Fin n, q4 m d (2048 * i.val + r.val) c.val := by
  induction n with
  | zero =>
    unfold accN k0_pay3
    show shapeCast S2048x256 _ shapeCasts_S2048x256_S2048x256 (ix2 r c) = _
    rw [shapeCast_id]
    exact Ideal.ofBits_zero_f32
  | succ n ih =>
    have hn : n < cfg0.N := h
    rw [Fin.sum_univ_castSucc]
    refine Eq.trans ?_ (congrArg (· + _) (ih (by omega)))
    show accN m d (n + 1) (ix2 r c) = accN m d n (ix2 r c) + q4 m d (2048 * n + r.val) c.val
    have hs : n = (2048 * n + r.val) / 2048 := by omega
    unfold q4
    rw [← q_at _ _ (i := ⟨2048 * n + r.val, by omega⟩) (s := ⟨n, by omega⟩) (j := c) rfl hs rfl,
      ← q_at _ _ (i := ⟨2048 * n + r.val, by omega⟩) (s := ⟨n, by omega⟩) (j := c) rfl hs rfl,
      ← q_at _ _ (i := ⟨2048 * n + r.val, by omega⟩) (s := ⟨n, by omega⟩) (j := c) rfl hs rfl,
      ← q_at _ _ (i := ⟨2048 * n + r.val, by omega⟩) (s := ⟨n, by omega⟩) (j := c) rfl hs rfl]
    simp only [← add_assoc]
    conv_lhs => unfold accN
    rw [dif_pos hn, accIn_accN, accStep_eq _ _ _ _ _ _ _ _ r c (s := ⟨n, by omega⟩) (coords_val ⟨n, hn⟩).symm]
    have e : ∀ A : Tok, ((cfg0.win 0).blk ⟨n, hn⟩).view.read (Elt Ideal) A (ix2 r c) = A (ix2 ⟨2048 * n + r.val, by omega⟩ c) :=
      fun A => blk_0 ⟨n, hn⟩ A r c rfl
    rw [← e (m (ovLoc d)), ← e (m (rvLoc d)), ← e (m (otLoc d)), ← e (m (rtLoc d))]
    rfl

/-- The result's window takes its whole array at the last point. -/
theorem tcOut_eq : tcOut m d = k0_pay2 (accN m d 12) := by
  unfold tcOut
  refine (dat m d).arrAt_eq_of_after_last 6 ⟨11, by decide⟩ (by decide +kernel) _ fun j => ?_
  show k0_pay2 (accN m d 12) _ = k0_pay2 (accN m d 12) _
  congr 1

theorem tcOut_at (a : Fin 8) (c : Fin 256) :
    tcOut m d (ix2 a c) = ∑ k : Fin 256, ∑ i : Fin 12, q4 m d (2048 * i.val + (8 * k.val + a.val)) c.val := by
  rw [tcOut_eq]
  refine (Ideal.reduceAdd_r3_a0 reduces_S256x8x256_S8x256 _ _).trans (Finset.sum_congr rfl fun k _ => ?_)
  refine Eq.trans ?_ (accN_eq m d ⟨8 * k.val + a.val, by omega⟩ c 12 le_rfl)
  show accN m d 12 _ = accN m d 12 _
  congr 1
  refine Shape.reshapeEquiv_eq_of_vals _ _ _ _ _ (rowMajor_val2 _ 256 rfl) (rowMajor_val3 _ 2048 256 rfl rfl) ?_
  show (8 * k.val + a.val) * 256 + c.val = k.val * 2048 + a.val * 256 + c.val
  omega

/-! ## The host operations -/

/-- The host operations on what the two calls leave. -/
def hostOut (x : S8x256.Idx → EReal) (y : S32x16.Idx → EReal) : FVec Ideal S_ .f32 :=
  mulf (Host.reduceAdd (φ := .f32) (concatenate S2560 0 [⟨S2048, shapeCast S2048 x shapeCasts_S8x256_S2048⟩,
      ⟨S512, shapeCast S512 y shapeCasts_S32x16_S512⟩] concatenates_S2048_S512_S2560_d0) (constant S_ .f32 0x00000000#32) reducesTo_S2560_S_d0 h_S_)
    (constant S_ .f32 0x34000000#32)

theorem Rv_eq : Rv m d = hostOut (tcOut m d) (scRes m d) := by
  rw [← hostV_v0 m d, ← hostV_v1 m d]
  unfold Rv ops
  after_results_simp
  rfl

theorem sum_cast {s t : Shape} (x : s.Idx → EReal) (h : s.ShapeCasts t) : ∑ j, shapeCast t x h j = ∑ i, x i :=
  Equiv.sum_comp (Shape.reshapeEquiv h) x

/-- The kernel's result. -/
theorem Rv_value (j : S_.Idx) : Rv m d j = (∑ n : Fin 32768, ∑ c : Fin 256, q4 m d n.val c.val) * Ideal.ofBits .f32 0x34000000#32 := by
  refine (congrFun (Rv_eq m d) j).trans (congrArg (· * Ideal.ofBits .f32 0x34000000#32) ?_)
  refine (Ideal.hostReduceAdd_r1_a0 reducesTo_S2560_S_d0 _ _ _).trans ?_
  rw [show constant (F := Ideal) S_ .f32 0x00000000#32 (Shape.Idx.first h_S_) = 0 from Ideal.ofBits_zero_f32, zero_add]
  refine (Fin.sum_univ_add (a := 2048) (b := 512) _).trans ?_
  rw [← sum_rows (fun n => ∑ c : Fin 256, q4 m d n c.val), ← sum_points (q4 m d), ← sum_tiles (q4 m d)]
  refine congr (congrArg HAdd.hAdd ?_) ?_
  · refine Eq.trans ?_ ((sum_cast (tcOut m d : S8x256.Idx → EReal) shapeCasts_S8x256_S2048).trans ((ValueIdx.sum_idx2 _).trans
      (Finset.sum_congr rfl fun a _ => Finset.sum_congr rfl fun c _ => tcOut_at m d a c)))
    refine ((sum_idx1 _).trans (Finset.sum_congr rfl fun k _ => ?_)).symm
    exact (concatenate_pair_apply_left (t := S2560) (s₁ := S2048) (s₂ := S512) 0 _ _ _ _ rfl _ fun b => by match b with | ⟨0, _⟩ => rfl).symm
  · refine Eq.trans ?_ ((sum_cast (scRes m d : S32x16.Idx → EReal) shapeCasts_S32x16_S512).trans ((ValueIdx.sum_idx2 _).trans
      (Finset.sum_congr rfl fun w _ => Finset.sum_congr rfl fun l _ => scOut_eq _ _ _ _ _ _ w l)))
    refine ((sum_idx1 _).trans (Finset.sum_congr rfl fun k _ => ?_)).symm
    exact (concatenate_pair_apply_right (t := S2560) (s₁ := S2048) (s₂ := S512) 0 _ _ _ _ rfl rfl _
      (fun b hb => by match b with | ⟨0, _⟩ => exact absurd rfl hb) (Nat.add_comm _ _)).symm

end Cert.Proof.Run

end
-- ==== Proof.SegIds.lean ====
/-
  The segment numbers the reference repeats: with every size 2048, row `n` of an array has number `n / 2048`.
-/
module

public import proofs.«01_k».proof.Proof.Gen.ReferenceIdeal
public import Idealize.ShloMosaic.Lib.Routing.Ops
public import Idealize.ShloMosaic.Lib.Routing.OpsSet
public import Idealize.ShloMosaic.Lib.Routing.OpsPair
public import Idealize.ShloMosaic.Lib.ReduceAll

@[expose] public section

noncomputable section

namespace Cert.Proof.Seg

open Cert.ReferenceIdeal Cert.ReferenceIdeal.Gen
open Idealize.ShloMosaic Idealize.ShloMosaic.ValueIdx Idealize.ShloMosaic.Routing

/-- The sizes rolled by one, the first put to zero: what each segment adds to the next one's start. -/
def rolled (x : IVec S16 32) : IVec S16 32 :=
  Host.scatter scatter_S16_S1_S__n_0_0_0 (fun _ b => b) (concatenate S16 0 [⟨S1, (extractStridedSlice S1 ![15] x slices_S16_S1_15)⟩, ⟨S15, (extractStridedSlice S15 ![0] x slices_S16_S15_0)⟩] concatenates_S1_S15_S16_d0) (broadcastInDim S1 ![] bcast_S_S1 (constantI S_ 32 0#32)) (constantI S_ 32 0#32)

theorem rolled_eq : ∀ i : Fin 16, rolled (fun _ => 2048#32) (ix1 i) = BitVec.ofNat 32 (if i.val = 0 then 0 else 2048) := by
  unfold rolled
  decide +kernel

/-- Where each segment starts. -/
def starts (x : IVec S16 32) : IVec S16 32 :=
  Host.reduceWindow IntOp.addi ![16] ![1] ![15] ![0] (rolled x) (broadcastInDim S_ ![] bcast_S_S_ (constantI S_ 32 0#32)) reduceWindows_S16_S16_w16s1p15_0 h_S_

theorem sum_starts (j : Nat) : ((List.range (j + 1)).map fun i => if i = 0 then 0 else 2048).sum = 2048 * j := by
  induction j with
  | zero => rfl
  | succ j ih =>
    rw [List.range_succ, List.map_append, List.sum_append, ih]
    simp
    omega

theorem starts_eq (j : Fin 16) : starts (fun _ => 2048#32) (ix1 j) = BitVec.ofNat 32 (2048 * j.val) := by
  unfold starts
  refine (cumsum1 (by rfl) _ (fun i => if i = 0 then 0 else 2048) rolled_eq _ rfl _ _ j).trans ?_
  rw [sum_starts]

/-- Update `i` of a scatter of `K` scalars into a vector of `N` lands at `x` exactly when its index, read signed, is `x`. -/
theorem lands {K N : Nat} (d : ScatterDims (shape1 N) (shape2 K 1) (shape1 K)) (hiw : d.insertedWindowDims = [0])
    (hsd : d.scatterDimsToOperandDims = [0]) (hivd : d.indexVectorDim = 1) (idx : IVec (shape2 K 1) 32) (i : Fin K) (x : Fin N) :
    d.resultIdx? (ix1 i) idx = some (ix1 x) ↔ (idx (ix2 i (0 : Fin 1))).toInt = (x.val : Int) := by
  have hm : (0 : Fin 1) ∈ d.scatterDimsToOperandDims := hsd ▸ List.mem_singleton.2 rfl
  have hw : d.window (ix1 i) 0 = 0 :=
    dif_neg fun h => (of_decide_eq_true (List.mem_filter.1 h).2) (hiw ▸ List.mem_singleton.2 rfl)
  have hi : d.siIdx (ix1 i) ⟨d.scatterDimsToOperandDims.idxOf 0, List.idxOf_lt_length_iff.2 hm⟩ = ix2 i (0 : Fin 1) := by
    refine funext fun a => Fin.ext ?_
    match a with
    | ⟨0, _⟩ =>
      refine (congrArg Fin.val (dif_neg (by rw [hivd]; exact Nat.zero_ne_one))).trans ?_
      have e : ∀ X : Fin 1, (ix1 i X).val = i.val := fun X => by rw [Subsingleton.elim X 0]
      exact e _
    | ⟨1, _⟩ =>
      refine (congrArg Fin.val (dif_pos (by rw [hivd]))).trans ?_
      show List.idxOf (0 : Fin 1) d.scatterDimsToOperandDims = 0
      rw [hsd]; rfl
  have hs : d.start (ix1 i) idx 0 = (idx (ix2 i (0 : Fin 1))).toInt := (dif_pos hm).trans (by rw [hi])
  rw [resultIdx?_ix1, hw, hs]
  simp

/-- A negative word counted from the other end of `n`, the others kept. -/
def wrap {s : Shape} (h : S_.BroadcastsInDim s (![] : Fin 0 → Fin s.rank)) (n : BitVec 32) (v : IVec s 32) : IVec s 32 :=
  select (cmpi .slt v (broadcastInDim s ![] h (constantI S_ 32 0#32))) (addi v (broadcastInDim s ![] h (constantI S_ 32 n))) v

theorem wrap_at {s : Shape} (h : S_.BroadcastsInDim s (![] : Fin 0 → Fin s.rank)) (n : BitVec 32) (v : IVec s 32) (i : s.Idx) (k : Nat)
    (hk : k < 2 ^ 31) (hv : v i = BitVec.ofNat 32 k) : wrap h n v i = BitVec.ofNat 32 k := by
  refine (wrap_of_lt (v i) _ ?_).trans hv
  rw [hv, BitVec.toNat_ofNat]
  omega

/-- A one at the first row of each segment, zero elsewhere. -/
def heads (x : IVec S16 32) : IVec S32768 32 :=
  Host.scatter scatter_S32768_S16x1_S16_n_0_0_1 IntOp.addi (broadcastInDim S32768 ![] bcast_S_S32768 (constantI S_ 32 0#32)) (broadcastInDim S16x1 ![0] bcast_S16_S16x1_0 (wrap bcast_S_S16 32768#32 (starts x))) (broadcastInDim S16 ![] bcast_S_S16 (constantI S_ 32 1#32))

theorem fold_ones {ι : Type} (P : ι → Prop) [DecidablePred P] (l : List ι) (z : Nat) :
    l.foldl (fun a n => if P n then IntOp.addi a 1#32 else a) (BitVec.ofNat 32 z) = BitVec.ofNat 32 (z + l.countP fun n => decide (P n)) := by
  induction l generalizing z with
  | nil => rfl
  | cons n l ih =>
    rw [List.foldl_cons, List.countP_cons]
    by_cases h : P n
    · rw [if_pos h, show IntOp.addi (BitVec.ofNat 32 z) 1#32 = BitVec.ofNat 32 (z + 1) from (BitVec.ofNat_add z 1).symm, ih]
      simp [h, Nat.add_assoc, Nat.add_comm 1]
    · rw [if_neg h, ih]
      simp [h]

theorem count_heads : ∀ k : Fin 16, ((List.finRange 16).countP fun n => decide (n = k)) = 1 := by decide

theorem heads_eq (x : Fin 32768) : heads (fun _ => 2048#32) (ix1 x) = BitVec.ofNat 32 (if x.val % 2048 = 0 then 1 else 0) := by
  unfold heads
  rw [scatter_at]
  have hl : ∀ n : Fin S16.numel, (scatter_S32768_S16x1_S16_n_0_0_1.resultIdx? (S16.rowMajor.symm n)
      (broadcastInDim S16x1 ![0] bcast_S16_S16x1_0 (wrap bcast_S_S16 32768#32 (starts fun _ => 2048#32))) = some (ix1 x)) ↔ 2048 * n.val = x.val := by
    intro n
    have hn : n.val < 16 := lt_of_lt_of_eq n.isLt (by decide)
    have e : S16.rowMajor.symm n = ix1 (⟨n.val, hn⟩ : Fin 16) := symm1 _
    have e2 := wrap_at bcast_S_S16 32768#32 _ _ (2048 * n.val) (by omega) (starts_eq ⟨n.val, hn⟩)
    rw [e, lands scatter_S32768_S16x1_S16_n_0_0_1 rfl rfl rfl, bcCol, e2, StableHlo.Predicate.toInt_ofNat_small _ (by omega)]
    norm_cast
  simp only [hl]
  refine (fold_ones (fun n : Fin S16.numel => 2048 * n.val = x.val) _ 0).trans (congrArg (BitVec.ofNat 32) ?_)
  rw [Nat.zero_add]
  have hx := x.isLt
  by_cases h : x.val % 2048 = 0
  · rw [if_pos h]
    refine Eq.trans ?_ (count_heads ⟨x.val / 2048, by omega⟩)
    refine List.countP_congr fun n _ => ?_
    have hn : n.val < 16 := lt_of_lt_of_eq n.isLt (by decide)
    simp only [decide_eq_true_eq]
    constructor
    · intro e; exact Fin.ext (show n.val = x.val / 2048 by omega)
    · intro e
      have : n.val = x.val / 2048 := congrArg Fin.val e
      omega
  · rw [if_neg h]
    refine List.countP_eq_zero.2 fun n _ => ?_
    simp only [decide_eq_true_eq]
    omega

/-- The segment each row lies in, counted from the starts. -/
def ids (x : IVec S16 32) : IVec S32768 32 :=
  subi (Host.reduceWindow IntOp.addi ![32768] ![1] ![32767] ![0] (heads x) (broadcastInDim S_ ![] bcast_S_S_ (constantI S_ 32 0#32)) reduceWindows_S32768_S32768_w32768s1p32767_0 h_S_) (broadcastInDim S32768 ![] bcast_S_S32768 (constantI S_ 32 1#32))

theorem sum_heads (j : Nat) : ((List.range (j + 1)).map fun i => if i % 2048 = 0 then 1 else 0).sum = j / 2048 + 1 := by
  induction j with
  | zero => rfl
  | succ j ih =>
    rw [List.range_succ, List.map_append, List.sum_append, ih]
    simp only [List.map_cons, List.map_nil, List.sum_cons, List.sum_nil]
    split <;> omega

theorem ids_eq (n : Fin 32768) : ids (fun _ => 2048#32) (ix1 n) = BitVec.ofNat 32 (n.val / 2048) := by
  have e := cumsum1 (by rfl) (heads fun _ => 2048#32) (fun i => if i % 2048 = 0 then 1 else 0) heads_eq
    (broadcastInDim S_ ![] bcast_S_S_ (constantI S_ 32 0#32)) rfl reduceWindows_S32768_S32768_w32768s1p32767_0 h_S_ n
  rw [sum_heads] at e
  show IntOp.subi _ 1#32 = _
  refine (congrArg (IntOp.subi · 1#32) e).trans ?_
  show BitVec.ofNat 32 (n.val / 2048 + 1) - 1#32 = _
  rw [BitVec.ofNat_add]
  exact BitVec.add_sub_cancel _ _

/-- The segment numbers as a column, as the reference's gathers take them. -/
def col (v : IVec S32768 32) : IVec S32768x1 32 :=
  broadcastInDim S32768x1 ![0] bcast_S32768_S32768x1_0 (wrap bcast_S_S32768 16#32 v)

theorem col_eq (v : IVec S32768 32) (hv : ∀ n : Fin 32768, v (ix1 n) = BitVec.ofNat 32 (n.val / 2048)) (n : Fin 32768) :
    col v (ix2 n (0 : Fin 1)) = BitVec.ofNat 32 (n.val / 2048) := by
  unfold col
  rw [bcCol]
  exact wrap_at _ _ _ _ _ (by omega) (hv n)

/-- The segment number of each row, as the reference gathers it. -/
def seg (x : IVec S16 32) : IVec S32768 32 :=
  select (Host.reduce IntOp.andi (andi (cmpi .sge (col (ids x)) (broadcastInDim S32768x1 ![] bcast_S_S32768x1 (constantI S_ 32 0#32))) (cmpi .sle (col (ids x)) (broadcastInDim S32768x1 ![0, 1] bcast_S1x1_S32768x1_0_1 (broadcastInDim S1x1 ![1] bcast_S1_S1x1_1 (constantI S1 32 15#32))))) (constantI S_ 1 1#1) reducesTo_S32768x1_S32768_d1 h_S_) (Host.gather gather_S16_S32768x1_S32768_n_0_n_n_0_1_1 (iotaInDim S16 32 0) (col (ids x))) (broadcastInDim S32768 ![] bcast_S_S32768 (constantI S_ 32 2147483648#32))

theorem in_range : ∀ k : Fin 16, IntOp.andi (IntOp.cmpi .sge (BitVec.ofNat 32 k.val) 0#32) (IntOp.cmpi .sle (BitVec.ofNat 32 k.val) 15#32) = 1#1 := by
  decide

/-- Row `n` lies in segment `n / 2048`. -/
theorem seg_eq (n : Fin 32768) : seg (fun _ => 2048#32) (ix1 n) = BitVec.ofNat 32 (n.val / 2048) := by
  have hn := n.isLt
  have hk : ∀ p : Fin 32768, p.val / 2048 < 16 := fun p => by have := p.isLt; omega
  unfold seg
  rw [select_apply, Host.reduce_andi_one _ _ _ _ _ rfl fun i => ?_]
  · refine (gather_take1 gather_S16_S32768x1_S32768_n_0_n_n_0_1_1 rfl rfl rfl rfl (iotaInDim S16 32 0) _ n
      ⟨n.val / 2048, hk n⟩ (col_eq _ ids_eq n) (by decide)).trans ?_
    rfl
  · obtain ⟨p, z, rfl⟩ : ∃ (p : Fin 32768) (z : Fin 1), i = ix2 p z := ⟨i 0, i 1, by funext a; match a with | ⟨0, _⟩ => rfl | ⟨1, _⟩ => rfl⟩
    obtain rfl : z = 0 := Subsingleton.elim _ _
    show IntOp.andi (IntOp.cmpi .sge (col (ids _) (ix2 p 0)) 0#32) (IntOp.cmpi .sle (col (ids _) (ix2 p 0)) 15#32) = 1#1
    rw [col_eq _ ids_eq p]
    exact in_range ⟨p.val / 2048, hk p⟩

end Cert.Proof.Seg

end
-- ==== Proof.RefValue.lean ====
/-
  One of the reference's four terms over the extended reals: with every size 2048, the sum of an array's squared differences, scaled.
-/
module

public import proofs.«01_k».proof.Proof.SegIds
public import proofs.«01_k».proof.Proof.Sums
public import Idealize.ShloMosaic.Lib.Pointwise

@[expose] public section

noncomputable section

namespace Cert.Proof.Seg

open Cert.ReferenceIdeal Cert.ReferenceIdeal.Gen Cert.Proof.Sums
open Idealize.ShloMosaic hiding ix0 ix1 ix2 ix3
open Idealize.ShloMosaic.ValueIdx Idealize.ShloMosaic.Routing

/-- Each row less its segment's target. -/
def diff (v : IVec S32768 32) (A : FVec Ideal S32768x256 .f32) (g : FVec Ideal S16x256 .f32) : FVec Ideal S32768x256 .f32 :=
  subf A (Host.gather gather_S16x256_S32768x1_S32768x256_1_0_n_n_0_1_1256 g (col v))

/-- Each row's sum of squares. -/
def rowSum (x : FVec Ideal S32768x256 .f32) : FVec Ideal S32768 .f32 :=
  Host.reduceAdd (mulf x x) (constant S_ .f32 0x00000000#32) reducesTo_S32768x256_S32768_d1 h_S_

/-- Each segment's sum of squares. -/
def segSum (v : IVec S32768 32) (x : FVec Ideal S32768x256 .f32) : FVec Ideal S16 .f32 :=
  Host.scatterAdd scatter_S16_S32768x1_S32768_n_0_0_1 (broadcastInDim S16 ![] bcast_S_S16 (constant S_ .f32 0x00000000#32)) (broadcastInDim S32768x1 ![0] bcast_S32768_S32768x1_0 v) (rowSum x)

/-- The mean over the segments of each segment's mean square. -/
def part (v : IVec S32768 32) (a : IVec S16 32) (x : FVec Ideal S32768x256 .f32) : FVec Ideal S_ .f32 :=
  Host.divf (Host.reduceAdd (Host.divf (segSum v x) (mulf (sitofp .f32 a) (broadcastInDim S16 ![] bcast_S_S16 (constant S_ .f32 0x43800000#32)))) (constant S_ .f32 0x00000000#32) reducesTo_S16_S_d0 h_S_) (constant S_ .f32 0x41800000#32)

variable (v : IVec S32768 32) (hv : ∀ n : Fin 32768, v (ix1 n) = BitVec.ofNat 32 (n.val / 2048)) (A : FVec Ideal S32768x256 .f32) (g : FVec Ideal S16x256 .f32)
include hv

theorem rowSum_eq (n : Fin 32768) : rowSum (diff v A g) (ix1 n) = ∑ c : Fin 256, q A g n.val c.val := by
  have hn := n.isLt
  unfold rowSum
  refine (Ideal.hostReduceAdd_r2_a1 reducesTo_S32768x256_S32768_d1 _ _ _).trans ?_
  rw [show constant (F := Ideal) S_ .f32 0x00000000#32 (Shape.Idx.first h_S_) = 0 from Ideal.ofBits_zero_f32, zero_add]
  refine Finset.sum_congr rfl fun c _ => ?_
  have e : diff v A g (ix2 n c) = A (ix2 n c) - g (ix2 (⟨n.val / 2048, by omega⟩ : Fin 16) c) :=
    congrArg (A (ix2 n c) - ·) (gather_row gather_S16x256_S32768x1_S32768x256_1_0_n_n_0_1_1256 rfl rfl rfl rfl rfl g (col v) n c
      ⟨n.val / 2048, by omega⟩ (col_eq v hv n) (by decide))
  show diff v A g (ix2 n c) * diff v A g (ix2 n c) = _
  rw [e]
  exact q_at A g rfl rfl rfl

theorem segSum_eq (b : Fin 16) : segSum v (diff v A g) (ix1 b) = ∑ n : Fin 32768, if n.val / 2048 = b.val then ∑ c : Fin 256, q A g n.val c.val else 0 := by
  unfold segSum
  show Ideal.ofBits .f32 0x00000000#32 + _ = _
  rw [Ideal.ofBits_zero_f32, zero_add, Finset.sum_filter]
  refine (sum_idx1 _).trans (Finset.sum_congr rfl fun n _ => ?_)
  have hn := n.isLt
  have hl : scatter_S16_S32768x1_S32768_n_0_0_1.resultIdx? (ix1 n) (broadcastInDim S32768x1 ![0] bcast_S32768_S32768x1_0 v) = some (ix1 b)
      ↔ n.val / 2048 = b.val := by
    rw [lands scatter_S16_S32768x1_S32768_n_0_0_1 rfl rfl rfl, bcCol, hv n, StableHlo.Predicate.toInt_ofNat_small _ (by omega)]
    exact Int.ofNat_inj
  exact if_congr hl (rowSum_eq v hv A g n) rfl

theorem sum_segSum : ∑ b : Fin 16, segSum v (diff v A g) (ix1 b) = tot A g := by
  rw [Finset.sum_congr rfl fun b _ => segSum_eq v hv A g b, Finset.sum_comm]
  refine Finset.sum_congr rfl fun n _ => ?_
  have hn := n.isLt
  refine (Finset.sum_eq_single (⟨n.val / 2048, by omega⟩ : Fin 16) (fun b _ hb => if_neg fun e => hb (Fin.ext e.symm)) (by simp)).trans ?_
  exact if_pos rfl

theorem segSum_nonneg (b : Fin 16) : 0 ≤ segSum v (diff v A g) (ix1 b) := by
  rw [segSum_eq v hv A g b]
  refine Finset.sum_nonneg fun n _ => ?_
  split
  · exact Finset.sum_nonneg fun c _ => q_nonneg A g n.val c.val
  · exact le_rfl

omit hv

/-- A sum of terms that are not negative is scaled term by term. -/
theorem sum_scaled {ι : Type} (s : Finset ι) (f : ι → EReal) (c : EReal) (hf : ∀ i, 0 ≤ f i) : ∑ i ∈ s, f i * c = (∑ i ∈ s, f i) * c := by
  classical
  induction s using Finset.induction_on with
  | empty => simp
  | insert i s hi ih =>
    rw [Finset.sum_insert hi, Finset.sum_insert hi, ih, EReal.right_distrib_of_nonneg (hf i) (Finset.sum_nonneg fun j _ => hf j)]

/-- The number of elements of a segment: 2048 rows of 256. -/
theorem seg_size : ((((2048#32).toInt : ℝ) : EReal)) * Ideal.ofBits .f32 0x43800000#32 = ((524288 : ℝ) : EReal) := by
  have e : Ideal.ofBits .f32 0x43800000#32 = ((256 : ℝ) : EReal) := by
    simp [Ideal.ofBits, Ideal.ieee, -EReal.coe_mul]; norm_num
  rw [e, ← EReal.coe_mul, show (2048#32).toInt = 2048 from by decide]
  norm_num

theorem seg_count : Ideal.ofBits .f32 0x41800000#32 = ((16 : ℝ) : EReal) := by
  simp [Ideal.ofBits, Ideal.ieee, -EReal.coe_mul]; norm_num

/-- With every size 2048, a term is its array's sum of squared differences, over the number of elements. -/
theorem part_eq (v : IVec S32768 32) (hv : ∀ n : Fin 32768, v (ix1 n) = BitVec.ofNat 32 (n.val / 2048)) (A : FVec Ideal S32768x256 .f32)
    (g : FVec Ideal S16x256 .f32) (j : S_.Idx) : part v (fun _ => 2048#32) (diff v A g) j = tot A g * ((1 / 8388608 : ℝ) : EReal) := by
  unfold part
  refine (congrArg (Ideal.div · (Ideal.ofBits .f32 0x41800000#32)) ?_ :
    _ = Ideal.div (tot A g * ((1 / 524288 : ℝ) : EReal)) (Ideal.ofBits .f32 0x41800000#32)).trans ?_
  · refine (Ideal.hostReduceAdd_r1_a0 reducesTo_S16_S_d0 _ _ _).trans ?_
    rw [show constant (F := Ideal) S_ .f32 0x00000000#32 (Shape.Idx.first h_S_) = 0 from Ideal.ofBits_zero_f32, zero_add,
      ← sum_segSum v hv A g, ← sum_scaled _ _ _ fun b => segSum_nonneg v hv A g b]
    refine Finset.sum_congr rfl fun b _ => ?_
    refine (congrArg (Ideal.div (segSum v (diff v A g) (ix1 b))) seg_size).trans (Ideal.div_coe (by norm_num) _)
  · rw [seg_count, Ideal.div_coe (by norm_num), mul_assoc, ← EReal.coe_mul]
    norm_num

end Cert.Proof.Seg

end
-- ==== Proof.Algebra.lean ====
/-
  Where every size is 2048, the kernel and the reference end with one result over the extended reals.
-/
module

public import proofs.«01_k».proof.Defs
public import proofs.«01_k».proof.Proof.KernelValue
public import proofs.«01_k».proof.Proof.RefValue
public import proofs.«01_k».proof.Proof.Gen.ReferenceIdeal.Run

@[expose] public section

noncomputable section

namespace Cert.Proof

open Cert.Proof.Sums
open Idealize.ShloMosaic hiding ix0 ix1 ix2 ix3
open Idealize.ShloMosaic.ValueIdx Idealize.SL.Sem

/-- The precondition's own side conditions. -/
theorem uniform_facts : Cert.Pre_uniform.Facts := ⟨by decide, by decide, by decide⟩

/-! ## The precondition -/

/-- The precondition's test of one array of sizes: where it is true, every size is 2048. -/
theorem sizes_eq (x : IVec ⟨1, ![16]⟩ 32) (hb : (⟨0, ![]⟩ : Shape).BroadcastsInDim ⟨1, ![16]⟩ (![] : Fin 0 → Fin 1)) (v : IVec ⟨0, ![]⟩ 1)
    (hr : (⟨1, ![16]⟩ : Shape).ReducesTo [0] ⟨0, ![]⟩) (hu : 0 < (⟨0, ![]⟩ : Shape).numel) (j : (⟨0, ![]⟩ : Shape).Idx)
    (h : Host.reduce IntOp.andi (cmpi .eq x (broadcastInDim ⟨1, ![16]⟩ ![] hb (constantI ⟨0, ![]⟩ 32 2048#32))) v hr hu j = 1#1) :
    x = fun _ => 2048#32 := by
  haveI : Subsingleton (⟨0, ![]⟩ : Shape).Idx := ⟨fun a b => (eq_ix0 a).trans (eq_ix0 b).symm⟩
  exact funext fun i => IntOp.cmpi_eq.1 (Host.reduce_andi_all _ _ _ _ j h i)

theorem uniform_eq [Cert.Pre_uniform.Facts] (gv gt : FVec Ideal ⟨2, ![16, 256]⟩ .f32) (ov ot rv rt : FVec Ideal ⟨2, ![32768, 256]⟩ .f32)
    (a b : IVec ⟨1, ![16]⟩ 32) (h : Cert.Pre_uniform.fn (F := Ideal) gv gt ov ot rv rt a b = fun _ => 1#1) :
    a = (fun _ => 2048#32) ∧ b = fun _ => 2048#32 := by
  have h0 := IntOp.andi_eq_one.1 (congrFun h ix0)
  exact ⟨sizes_eq a _ _ _ _ ix0 h0.1, sizes_eq b _ _ _ _ ix0 h0.2⟩

/-! ## The two results -/

theorem scale : Ideal.ofBits .f32 0x34000000#32 = ((1 / 8388608 : ℝ) : EReal) := by
  simp [Ideal.ofBits, Ideal.ieee, -EReal.coe_mul]; norm_num

/-- Both results, of the four arrays and the two targets. -/
def result (gv gt : Tgt) (ov ot rv rt : Tok) : EReal :=
  tot ov gv * ((1 / 8388608 : ℝ) : EReal) + tot ot gt * ((1 / 8388608 : ℝ) : EReal)
    + (tot rv gv * ((1 / 8388608 : ℝ) : EReal) + tot rt gt * ((1 / 8388608 : ℝ) : EReal))

theorem tot_nonneg (A : Tok) (g : Tgt) : 0 ≤ tot A g := Finset.sum_nonneg fun _ _ => Finset.sum_nonneg fun _ _ => q_nonneg A g _ _

theorem kernel_eq (m : (ℓ : Loc KernelIdeal.nD KernelIdeal.τ KernelIdeal.sig) → Buf (Elt Ideal) ℓ) (d : Dev KernelIdeal.nD) (j : KernelIdeal.S_.Idx) :
    Run.Rv m d j = result (m (Run.gvLoc d)) (m (Run.gtLoc d)) (m (Run.ovLoc d)) (m (Run.otLoc d)) (m (Run.rvLoc d)) (m (Run.rtLoc d)) := by
  rw [Run.Rv_value, scale]
  have e : (∑ n : Fin 32768, ∑ c : Fin 256, Run.q4 m d n.val c.val)
      = tot (m (Run.ovLoc d)) (m (Run.gvLoc d)) + tot (m (Run.otLoc d)) (m (Run.gtLoc d))
        + (tot (m (Run.rvLoc d)) (m (Run.gvLoc d)) + tot (m (Run.rtLoc d)) (m (Run.gtLoc d))) := by
    unfold Run.q4
    simp only [Finset.sum_add_distrib]
    unfold tot
    abel
  rw [e, EReal.right_distrib_of_nonneg (add_nonneg (tot_nonneg _ _) (tot_nonneg _ _)) (add_nonneg (tot_nonneg _ _) (tot_nonneg _ _)),
    EReal.right_distrib_of_nonneg (tot_nonneg _ _) (tot_nonneg _ _), EReal.right_distrib_of_nonneg (tot_nonneg _ _) (tot_nonneg _ _)]
  rfl

/-- The reference's result, as its run leaves it. -/
def refOut (gv gt : FVec Ideal ReferenceIdeal.S16x256 .f32) (ov ot rv rt : FVec Ideal ReferenceIdeal.S32768x256 .f32) (a b : IVec ReferenceIdeal.S16 32) :
    FVec Ideal ReferenceIdeal.S_ .f32 :=
  addf (addf (Seg.part (Seg.seg a) a (Seg.diff (Seg.seg a) ov gv)) (Seg.part (Seg.seg a) a (Seg.diff (Seg.seg a) ot gt)))
    (addf (Seg.part (Seg.seg b) b (Seg.diff (Seg.seg b) rv gv)) (Seg.part (Seg.seg b) b (Seg.diff (Seg.seg b) rt gt)))

theorem refOut_eq (gv gt : FVec Ideal ReferenceIdeal.S16x256 .f32) (ov ot rv rt : FVec Ideal ReferenceIdeal.S32768x256 .f32) (j : ReferenceIdeal.S_.Idx) :
    refOut gv gt ov ot rv rt (fun _ => 2048#32) (fun _ => 2048#32) j = result gv gt ov ot rv rt := by
  have e := fun A g => Seg.part_eq (Seg.seg fun _ => 2048#32) Seg.seg_eq A g j
  unfold refOut result
  rw [addf_apply, addf_apply, addf_apply, e, e, e, e]

theorem ref_run (m : (ℓ : Loc ReferenceIdeal.nD ReferenceIdeal.τ ReferenceIdeal.sig) → Buf (Elt Ideal) ℓ) (ρ : Dev ReferenceIdeal.nD → PrngReg) :
    θ_run ReferenceIdeal.defs (onTc (τ := ReferenceIdeal.τ) (ReferenceIdeal.main (F := Ideal))) ⟨m, fun _ => 0, ρ⟩ fun r => ∀ c : Dev ReferenceIdeal.nD,
      r.2.mem ((c.tc : Thread ReferenceIdeal.nD ReferenceIdeal.τ).loc ReferenceIdeal.main_v114)
        = refOut (m (c.tc.loc ReferenceIdeal.main_arg0)) (m (c.tc.loc ReferenceIdeal.main_arg1)) (m (c.tc.loc ReferenceIdeal.main_arg2))
            (m (c.tc.loc ReferenceIdeal.main_arg3)) (m (c.tc.loc ReferenceIdeal.main_arg4)) (m (c.tc.loc ReferenceIdeal.main_arg5))
            (m (c.tc.loc ReferenceIdeal.main_arg6)) (m (c.tc.loc ReferenceIdeal.main_arg7))
      ∧ r.2.mem (c.tc.loc ReferenceIdeal.main_arg0) = m (c.tc.loc ReferenceIdeal.main_arg0)
      ∧ r.2.mem (c.tc.loc ReferenceIdeal.main_arg1) = m (c.tc.loc ReferenceIdeal.main_arg1)
      ∧ r.2.mem (c.tc.loc ReferenceIdeal.main_arg2) = m (c.tc.loc ReferenceIdeal.main_arg2)
      ∧ r.2.mem (c.tc.loc ReferenceIdeal.main_arg3) = m (c.tc.loc ReferenceIdeal.main_arg3)
      ∧ r.2.mem (c.tc.loc ReferenceIdeal.main_arg4) = m (c.tc.loc ReferenceIdeal.main_arg4)
      ∧ r.2.mem (c.tc.loc ReferenceIdeal.main_arg5) = m (c.tc.loc ReferenceIdeal.main_arg5)
      ∧ r.2.mem (c.tc.loc ReferenceIdeal.main_arg6) = m (c.tc.loc ReferenceIdeal.main_arg6)
      ∧ r.2.mem (c.tc.loc ReferenceIdeal.main_arg7) = m (c.tc.loc ReferenceIdeal.main_arg7) :=
  (θ_run ReferenceIdeal.defs _ _).mono (fun _ h c => ⟨(h c).1.trans rfl, (h c).2⟩) (ReferenceIdeal.Value.run (F := Ideal) m ρ)

/-! ## The claim -/

theorem algebraic [hp : Cert.Pre_uniform.Facts] : Cert.algebraic_KernelIdeal_ReferenceIdeal_pre_uniform := by
  intro m ρ m' ρ' hu ha
  refine ⟨fun d => Run.Rv m d, (θ_run KernelIdeal.defs _ _).mono (fun _ h => h.1) (Run.run_main (F := Ideal) m ρ),
    (θ_run ReferenceIdeal.defs _ _).mono (fun _ h c => ⟨(h c).1.trans ?_, (h c).2⟩) (ref_run m' ρ')⟩
  obtain ⟨h0, h1, h2, h3, h4, h5, h6, h7⟩ := ha c
  obtain ⟨ea, eb⟩ := uniform_eq _ _ _ _ _ _ _ _ (hu c)
  refine (congr (congr (congr (congr (congr (congr (congr (congrArg refOut h0) h1) h2) h3) h4) h5) (h6.trans ea)) (h7.trans eb)).trans ?_
  exact funext fun j => (refOut_eq _ _ _ _ _ _ j).trans (kernel_eq m c j).symm

end Cert.Proof

end
-- ==== Proof.lean ====
/-
  The claims of the certificate, put together.
-/
module

public import proofs.«01_k».proof.Defs
public import proofs.«01_k».proof.Proof.Frames
public import proofs.«01_k».proof.Proof.Algebra
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The reference declares no semaphore, and its host run leaves the arguments. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem claim : Cert.Claim :=
  ⟨Cert.Kernel.Gen.facts, Cert.KernelIdeal.Gen.facts, Cert.ReferenceIdeal.Gen.facts, uniform_facts,
    frame_kernel, frame_kernelIdeal, fun m ρ _ => frame_kernelIdeal m ρ trivial,
    frame_reference, fun m ρ _ => frame_reference m ρ trivial, trivial, algebraic (hp := uniform_facts)⟩

end Cert.Proof

end
